-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_n" .f32 0x358637BD#32 ((1000000⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in_range : Cert.Pre_targets_in_range.Facts) (hPre_in_range : Cert.Pre_in_range.Facts),
    quiescent_Kernel (hKernel := hKernel) (hPre_targets_in_range := hPre_targets_in_range)
    ∧ quiescent_KernelIdeal (hKernelIdeal := hKernelIdeal) (hPre_targets_in_range := hPre_targets_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1000000x8 : Shape := ⟨2, ![1000000, 8]⟩
abbrev S1000000 : Shape := ⟨1, ![1000000]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x8 .f32) (main_arg1 : IVec S1000000 32) : IVec S_ 1 :=
  let main_v0 : FVec F S1000000x8 .f32 := Host.absf main_arg0
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_c_0 : IVec S_ 32 := constantI S_ 32 0#32
  let main_v4 : IVec S1000000 32 := broadcastInDim S1000000 ![] bcast_S_S1000000 main_c_0
  let main_v5 : IVec S1000000 1 := cmpi .sge main_arg1 main_v4
  let main_c_1 : IVec S_ 32 := constantI S_ 32 8#32
  let main_v6 : IVec S1000000 32 := broadcastInDim S1000000 ![] bcast_S_S1000000 main_c_1
  let main_v7 : IVec S1000000 1 := cmpi .slt main_arg1 main_v6
  let main_v8 : IVec S1000000 1 := andi main_v5 main_v7
  let main_c_2 : IVec S_ 1 := constantI S_ 1 1#1
  let main_v9 : IVec S_ 1 := (fun x v => Host.reduce IntOp.andi x v reducesTo_S1000000_S_d0 h_S_) main_v8 main_c_2
  let main_v10 : IVec S_ 1 := andi main_v3 main_v9
  main_v10
-- ==== Pre_targets_in_range.lean ====
abbrev S1000000x8 : Shape := ⟨2, ![1000000, 8]⟩
abbrev S1000000 : Shape := ⟨1, ![1000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S1000000x8 .f32) (main_arg1 : IVec S1000000 32) : IVec S_ 1 :=
  let main_c : IVec S_ 32 := constantI S_ 32 0#32
  let main_v0 : IVec S1000000 32 := broadcastInDim S1000000 ![] bcast_S_S1000000 main_c
  let main_v1 : IVec S1000000 1 := cmpi .sge main_arg1 main_v0
  let main_c_0 : IVec S_ 32 := constantI S_ 32 8#32
  let main_v2 : IVec S1000000 32 := broadcastInDim S1000000 ![] bcast_S_S1000000 main_c_0
  let main_v3 : IVec S1000000 1 := cmpi .slt main_arg1 main_v2
  let main_v4 : IVec S1000000 1 := andi main_v1 main_v3
  let main_c_1 : IVec S_ 1 := constantI S_ 1 1#1
  let main_v5 : IVec S_ 1 := (fun x v => Host.reduce IntOp.andi x v reducesTo_S1000000_S_d0 h_S_) main_v4 main_c_1
  main_v5
-- ==== Kernel.lean ====
abbrev S1000000x8 : Shape := ⟨2, ![1000000, 8]⟩
abbrev S1000000 : Shape := ⟨1, ![1000000]⟩
abbrev S8000000 : Shape := ⟨1, ![8000000]⟩
abbrev S32x64 : Shape := ⟨2, ![32, 64]⟩
abbrev S32768 : Shape := ⟨1, ![32768]⟩
abbrev S4096 : Shape := ⟨1, ![4096]⟩
abbrev S1024 : Shape := ⟨1, ![1024]⟩
abbrev S64 : Shape := ⟨1, ![64]⟩
abbrev S16 : Shape := ⟨1, ![16]⟩
abbrev S_ : Shape := ⟨0, ![]⟩
abbrev S20608 : Shape := ⟨1, ![20608]⟩
abbrev S2576 : Shape := ⟨1, ![2576]⟩
abbrev S128 : Shape := ⟨1, ![128]⟩
abbrev S1x64 : Shape := ⟨2, ![1, 64]⟩
abbrev S32x8x8 : Shape := ⟨3, ![32, 8, 8]⟩
abbrev S1x1 : Shape := ⟨2, ![1, 1]⟩
abbrev S8x8 : Shape := ⟨2, ![8, 8]⟩
abbrev S8 : Shape := ⟨1, ![8]⟩
abbrev S8x1 : Shape := ⟨2, ![8, 1]⟩
abbrev S1x8 : Shape := ⟨2, ![1, 8]⟩
abbrev S1x8x8 : Shape := ⟨3, ![1, 8, 8]⟩
abbrev S1 : Shape := ⟨1, ![1]⟩
abbrev S1x1x1 : Shape := ⟨3, ![1, 1, 1]⟩

abbrev nBuf : Table → Nat
  | .hbm => 7
  | .local .tc .vmem => 2
  | .local .scVector .vmem => 4
  | _ => 0

abbrev bufTy : (tb : Table) → Fin (nBuf tb) → BufTy
  | .hbm, ⟨0, _⟩ => ⟨S1000000x8, .f32⟩
  | .hbm, ⟨1, _⟩ => ⟨S1000000, .i32⟩
  | .hbm, ⟨2, _⟩ => ⟨S8000000, .f32⟩
  | .hbm, ⟨3, _⟩ => ⟨S32x64, .i32⟩
  | .hbm, ⟨4, _⟩ => ⟨S32x8x8, .i32⟩
  | .hbm, ⟨5, _⟩ => ⟨S1x1, .f32⟩
  | .hbm, ⟨6, _⟩ => ⟨S_, .f32⟩
  | .local .tc .vmem, ⟨0, _⟩ => ⟨S32x8x8, .i32⟩
  | .local .tc .vmem, ⟨1, _⟩ => ⟨S1x1, .f32⟩
  | .local .scVector .vmem, ⟨0, _⟩ => ⟨S32768, .f32⟩
  | .local .scVector .vmem, ⟨1, _⟩ => ⟨S4096, .i32⟩
  | .local .scVector .vmem, ⟨2, _⟩ => ⟨S1024, .i32⟩
  | .local .scVector .vmem, ⟨3, _⟩ => ⟨S64, .i32⟩
  | _, _ => ⟨S1000000x8, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 19
abbrev cc1_sem1_0 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31248_i32 : BitVec 32 := 31248#32
  let v81 : BitVec 32 := Scalar.muli v1 c31248_i32
  let v82 : BitVec 32 := Scalar.addi v81 c0_i32_3
  let c8_i32_4 : BitVec 32 := 8#32
  let v83 : BitVec 32 := Scalar.muli v82 c8_i32_4
  ![v83.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31248_i32 : BitVec 32 := 31248#32
  let v81 : BitVec 32 := Scalar.muli v1 c31248_i32
  let v82 : BitVec 32 := Scalar.addi v81 c0_i32_3
  ![v82.toNat]
@[reducible] def k0_t1_loop : Scf.Loop 32 :=
  let c0_i32_6 : BitVec 32 := 0#32
  let c256_i32 : BitVec 32 := 256#32
  let v84 : BitVec 32 := Scalar.addi c0_i32_6 c256_i32
  let c1_i32_7 : BitVec 32 := 1#32
  ⟨c0_i32_6, v84, c1_i32_7⟩

def k0_chk1 (v254 : IVec S16 32) : Prop :=
  (∀ a x, ((![v254] : Fin 1 → IVec S16 32) a x).toNat < S32768.size a)
theorem k0_idx1_inb : ∀ (v254 : IVec S16 32) (k0_hw1 : k0_chk1 v254), ∀ a x, ((![v254] : Fin 1 → IVec S16 32) a x).toNat < S32768.size a := fun v254 k0_hw1 => k0_hw1

def k0_chk2 (v257 : IVec S16 32) : Prop :=
  (∀ a x, ((![v257] : Fin 1 → IVec S16 32) a x).toNat < S32768.size a)
theorem k0_idx2_inb : ∀ (v257 : IVec S16 32) (k0_hw2 : k0_chk2 v257), ∀ a x, ((![v257] : Fin 1 → IVec S16 32) a x).toNat < S32768.size a := fun v257 k0_hw2 => k0_hw2

def k0_chk3 (v260 : IVec S16 32) : Prop :=
  (∀ a x, ((![v260] : Fin 1 → IVec S16 32) a x).toNat < S32768.size a)
theorem k0_idx3_inb : ∀ (v260 : IVec S16 32) (k0_hw3 : k0_chk3 v260), ∀ a x, ((![v260] : Fin 1 → IVec S16 32) a x).toNat < S32768.size a := fun v260 k0_hw3 => k0_hw3

def k0_chk4 (v263 : IVec S16 32) : Prop :=
  (∀ a x, ((![v263] : Fin 1 → IVec S16 32) a x).toNat < S32768.size a)
theorem k0_idx4_inb : ∀ (v263 : IVec S16 32) (k0_hw4 : k0_chk4 v263), ∀ a x, ((![v263] : Fin 1 → IVec S16 32) a x).toNat < S32768.size a := fun v263 k0_hw4 => k0_hw4

def k0_chk5 (v266 : IVec S16 32) : Prop :=
  (∀ a x, ((![v266] : Fin 1 → IVec S16 32) a x).toNat < S32768.size a)
theorem k0_idx5_inb : ∀ (v266 : IVec S16 32) (k0_hw5 : k0_chk5 v266), ∀ a x, ((![v266] : Fin 1 → IVec S16 32) a x).toNat < S32768.size a := fun v266 k0_hw5 => k0_hw5

def k0_chk6 (v269 : IVec S16 32) : Prop :=
  (∀ a x, ((![v269] : Fin 1 → IVec S16 32) a x).toNat < S32768.size a)
theorem k0_idx6_inb : ∀ (v269 : IVec S16 32) (k0_hw6 : k0_chk6 v269), ∀ a x, ((![v269] : Fin 1 → IVec S16 32) a x).toNat < S32768.size a := fun v269 k0_hw6 => k0_hw6

def k0_chk7 (v272 : IVec S16 32) : Prop :=
  (∀ a x, ((![v272] : Fin 1 → IVec S16 32) a x).toNat < S32768.size a)
theorem k0_idx7_inb : ∀ (v272 : IVec S16 32) (k0_hw7 : k0_chk7 v272), ∀ a x, ((![v272] : Fin 1 → IVec S16 32) a x).toNat < S32768.size a := fun v272 k0_hw7 => k0_hw7

def k0_chk8 (v275 : IVec S16 32) : Prop :=
  (∀ a x, ((![v275] : Fin 1 → IVec S16 32) a x).toNat < S32768.size a)
theorem k0_idx8_inb : ∀ (v275 : IVec S16 32) (k0_hw8 : k0_chk8 v275), ∀ a x, ((![v275] : Fin 1 → IVec S16 32) a x).toNat < S32768.size a := fun v275 k0_hw8 => k0_hw8
def k0_off3 (k0_t1 : Fin k0_t1_loop.trips) : Fin 1 → Nat :=
  let c0_i32_6 : BitVec 32 := 0#32
  let c1_i32_7 : BitVec 32 := 1#32
  let arg9 : BitVec 32 := Scf.iv c0_i32_6 c1_i32_7 k0_t1
  let c16_i32 : BitVec 32 := 16#32
  let v249 : BitVec 32 := Scalar.muli arg9 c16_i32
  let v297 : Index := Scalar.indexCast v249
  ![v297.toNat]

def k0_chk9 (v302 : IVec S16 32) : Prop :=
  (∀ a x, ((![v302] : Fin 1 → IVec S16 32) a x).toNat < S1024.size a)
theorem k0_idx9_inb : ∀ (v302 : IVec S16 32) (k0_hw9 : k0_chk9 v302), ∀ a x, ((![v302] : Fin 1 → IVec S16 32) a x).toNat < S1024.size a := fun v302 k0_hw9 => k0_hw9
@[reducible] def k0_t2_loop : Scf.Loop 32 :=
  let c0_i32_11 : BitVec 32 := 0#32
  let c256_i32_12 : BitVec 32 := 256#32
  let v88 : BitVec 32 := Scalar.addi c0_i32_11 c256_i32_12
  let c1_i32_13 : BitVec 32 := 1#32
  ⟨c0_i32_11, v88, c1_i32_13⟩

def k0_chk10 (v254 : IVec S16 32) : Prop :=
  (∀ a x, ((![v254] : Fin 1 → IVec S16 32) a x).toNat < S32768.size a)
theorem k0_idx10_inb : ∀ (v254 : IVec S16 32) (k0_hw10 : k0_chk10 v254), ∀ a x, ((![v254] : Fin 1 → IVec S16 32) a x).toNat < S32768.size a := fun v254 k0_hw10 => k0_hw10

def k0_chk11 (v257 : IVec S16 32) : Prop :=
  (∀ a x, ((![v257] : Fin 1 → IVec S16 32) a x).toNat < S32768.size a)
theorem k0_idx11_inb : ∀ (v257 : IVec S16 32) (k0_hw11 : k0_chk11 v257), ∀ a x, ((![v257] : Fin 1 → IVec S16 32) a x).toNat < S32768.size a := fun v257 k0_hw11 => k0_hw11

def k0_chk12 (v260 : IVec S16 32) : Prop :=
  (∀ a x, ((![v260] : Fin 1 → IVec S16 32) a x).toNat < S32768.size a)
theorem k0_idx12_inb : ∀ (v260 : IVec S16 32) (k0_hw12 : k0_chk12 v260), ∀ a x, ((![v260] : Fin 1 → IVec S16 32) a x).toNat < S32768.size a := fun v260 k0_hw12 => k0_hw12

def k0_chk13 (v263 : IVec S16 32) : Prop :=
  (∀ a x, ((![v263] : Fin 1 → IVec S16 32) a x).toNat < S32768.size a)
theorem k0_idx13_inb : ∀ (v263 : IVec S16 32) (k0_hw13 : k0_chk13 v263), ∀ a x, ((![v263] : Fin 1 → IVec S16 32) a x).toNat < S32768.size a := fun v263 k0_hw13 => k0_hw13

def k0_chk14 (v266 : IVec S16 32) : Prop :=
  (∀ a x, ((![v266] : Fin 1 → IVec S16 32) a x).toNat < S32768.size a)
theorem k0_idx14_inb : ∀ (v266 : IVec S16 32) (k0_hw14 : k0_chk14 v266), ∀ a x, ((![v266] : Fin 1 → IVec S16 32) a x).toNat < S32768.size a := fun v266 k0_hw14 => k0_hw14

def k0_chk15 (v269 : IVec S16 32) : Prop :=
  (∀ a x, ((![v269] : Fin 1 → IVec S16 32) a x).toNat < S32768.size a)
theorem k0_idx15_inb : ∀ (v269 : IVec S16 32) (k0_hw15 : k0_chk15 v269), ∀ a x, ((![v269] : Fin 1 → IVec S16 32) a x).toNat < S32768.size a := fun v269 k0_hw15 => k0_hw15

def k0_chk16 (v272 : IVec S16 32) : Prop :=
  (∀ a x, ((![v272] : Fin 1 → IVec S16 32) a x).toNat < S32768.size a)
theorem k0_idx16_inb : ∀ (v272 : IVec S16 32) (k0_hw16 : k0_chk16 v272), ∀ a x, ((![v272] : Fin 1 → IVec S16 32) a x).toNat < S32768.size a := fun v272 k0_hw16 => k0_hw16

def k0_chk17 (v275 : IVec S16 32) : Prop :=
  (∀ a x, ((![v275] : Fin 1 → IVec S16 32) a x).toNat < S32768.size a)
theorem k0_idx17_inb : ∀ (v275 : IVec S16 32) (k0_hw17 : k0_chk17 v275), ∀ a x, ((![v275] : Fin 1 → IVec S16 32) a x).toNat < S32768.size a := fun v275 k0_hw17 => k0_hw17
def k0_off4 (k0_t2 : Fin k0_t2_loop.trips) : Fin 1 → Nat :=
  let c0_i32_11 : BitVec 32 := 0#32
  let c1_i32_13 : BitVec 32 := 1#32
  let arg9 : BitVec 32 := Scf.iv c0_i32_11 c1_i32_13 k0_t2
  let c16_i32 : BitVec 32 := 16#32
  let v249 : BitVec 32 := Scalar.muli arg9 c16_i32
  let v297 : Index := Scalar.indexCast v249
  ![v297.toNat]

def k0_chk18 (v302 : IVec S16 32) : Prop :=
  (∀ a x, ((![v302] : Fin 1 → IVec S16 32) a x).toNat < S1024.size a)
theorem k0_idx18_inb : ∀ (v302 : IVec S16 32) (k0_hw18 : k0_chk18 v302), ∀ a x, ((![v302] : Fin 1 → IVec S16 32) a x).toNat < S1024.size a := fun v302 k0_hw18 => k0_hw18
@[reducible] def k0_t3_loop : Scf.Loop 32 :=
  let c0_i32_17 : BitVec 32 := 0#32
  let c256_i32_18 : BitVec 32 := 256#32
  let v92 : BitVec 32 := Scalar.addi c0_i32_17 c256_i32_18
  let c1_i32_19 : BitVec 32 := 1#32
  ⟨c0_i32_17, v92, c1_i32_19⟩

def k0_chk19 (v254 : IVec S16 32) : Prop :=
  (∀ a x, ((![v254] : Fin 1 → IVec S16 32) a x).toNat < S32768.size a)
theorem k0_idx19_inb : ∀ (v254 : IVec S16 32) (k0_hw19 : k0_chk19 v254), ∀ a x, ((![v254] : Fin 1 → IVec S16 32) a x).toNat < S32768.size a := fun v254 k0_hw19 => k0_hw19

def k0_chk20 (v257 : IVec S16 32) : Prop :=
  (∀ a x, ((![v257] : Fin 1 → IVec S16 32) a x).toNat < S32768.size a)
theorem k0_idx20_inb : ∀ (v257 : IVec S16 32) (k0_hw20 : k0_chk20 v257), ∀ a x, ((![v257] : Fin 1 → IVec S16 32) a x).toNat < S32768.size a := fun v257 k0_hw20 => k0_hw20

def k0_chk21 (v260 : IVec S16 32) : Prop :=
  (∀ a x, ((![v260] : Fin 1 → IVec S16 32) a x).toNat < S32768.size a)
theorem k0_idx21_inb : ∀ (v260 : IVec S16 32) (k0_hw21 : k0_chk21 v260), ∀ a x, ((![v260] : Fin 1 → IVec S16 32) a x).toNat < S32768.size a := fun v260 k0_hw21 => k0_hw21

def k0_chk22 (v263 : IVec S16 32) : Prop :=
  (∀ a x, ((![v263] : Fin 1 → IVec S16 32) a x).toNat < S32768.size a)
theorem k0_idx22_inb : ∀ (v263 : IVec S16 32) (k0_hw22 : k0_chk22 v263), ∀ a x, ((![v263] : Fin 1 → IVec S16 32) a x).toNat < S32768.size a := fun v263 k0_hw22 => k0_hw22

def k0_chk23 (v266 : IVec S16 32) : Prop :=
  (∀ a x, ((![v266] : Fin 1 → IVec S16 32) a x).toNat < S32768.size a)
theorem k0_idx23_inb : ∀ (v266 : IVec S16 32) (k0_hw23 : k0_chk23 v266), ∀ a x, ((![v266] : Fin 1 → IVec S16 32) a x).toNat < S32768.size a := fun v266 k0_hw23 => k0_hw23

def k0_chk24 (v269 : IVec S16 32) : Prop :=
  (∀ a x, ((![v269] : Fin 1 → IVec S16 32) a x).toNat < S32768.size a)
theorem k0_idx24_inb : ∀ (v269 : IVec S16 32) (k0_hw24 : k0_chk24 v269), ∀ a x, ((![v269] : Fin 1 → IVec S16 32) a x).toNat < S32768.size a := fun v269 k0_hw24 => k0_hw24

def k0_chk25 (v272 : IVec S16 32) : Prop :=
  (∀ a x, ((![v272] : Fin 1 → IVec S16 32) a x).toNat < S32768.size a)
theorem k0_idx25_inb : ∀ (v272 : IVec S16 32) (k0_hw25 : k0_chk25 v272), ∀ a x, ((![v272] : Fin 1 → IVec S16 32) a x).toNat < S32768.size a := fun v272 k0_hw25 => k0_hw25

def k0_chk26 (v275 : IVec S16 32) : Prop :=
  (∀ a x, ((![v275] : Fin 1 → IVec S16 32) a x).toNat < S32768.size a)
theorem k0_idx26_inb : ∀ (v275 : IVec S16 32) (k0_hw26 : k0_chk26 v275), ∀ a x, ((![v275] : Fin 1 → IVec S16 32) a x).toNat < S32768.size a := fun v275 k0_hw26 => k0_hw26
def k0_off5 (k0_t3 : Fin k0_t3_loop.trips) : Fin 1 → Nat :=
  let c0_i32_17 : BitVec 32 := 0#32
  let c1_i32_19 : BitVec 32 := 1#32
  let arg9 : BitVec 32 := Scf.iv c0_i32_17 c1_i32_19 k0_t3
  let c16_i32 : BitVec 32 := 16#32
  let v249 : BitVec 32 := Scalar.muli arg9 c16_i32
  let v297 : Index := Scalar.indexCast v249
  ![v297.toNat]

def k0_chk27 (v302 : IVec S16 32) : Prop :=
  (∀ a x, ((![v302] : Fin 1 → IVec S16 32) a x).toNat < S1024.size a)
theorem k0_idx27_inb : ∀ (v302 : IVec S16 32) (k0_hw27 : k0_chk27 v302), ∀ a x, ((![v302] : Fin 1 → IVec S16 32) a x).toNat < S1024.size a := fun v302 k0_hw27 => k0_hw27
@[reducible] def k0_t4_loop : Scf.Loop 32 :=
  let c0_i32_23 : BitVec 32 := 0#32
  let c256_i32_24 : BitVec 32 := 256#32
  let v96 : BitVec 32 := Scalar.addi c0_i32_23 c256_i32_24
  let c1_i32_25 : BitVec 32 := 1#32
  ⟨c0_i32_23, v96, c1_i32_25⟩

def k0_chk28 (v254 : IVec S16 32) : Prop :=
  (∀ a x, ((![v254] : Fin 1 → IVec S16 32) a x).toNat < S32768.size a)
theorem k0_idx28_inb : ∀ (v254 : IVec S16 32) (k0_hw28 : k0_chk28 v254), ∀ a x, ((![v254] : Fin 1 → IVec S16 32) a x).toNat < S32768.size a := fun v254 k0_hw28 => k0_hw28

def k0_chk29 (v257 : IVec S16 32) : Prop :=
  (∀ a x, ((![v257] : Fin 1 → IVec S16 32) a x).toNat < S32768.size a)
theorem k0_idx29_inb : ∀ (v257 : IVec S16 32) (k0_hw29 : k0_chk29 v257), ∀ a x, ((![v257] : Fin 1 → IVec S16 32) a x).toNat < S32768.size a := fun v257 k0_hw29 => k0_hw29

def k0_chk30 (v260 : IVec S16 32) : Prop :=
  (∀ a x, ((![v260] : Fin 1 → IVec S16 32) a x).toNat < S32768.size a)
theorem k0_idx30_inb : ∀ (v260 : IVec S16 32) (k0_hw30 : k0_chk30 v260), ∀ a x, ((![v260] : Fin 1 → IVec S16 32) a x).toNat < S32768.size a := fun v260 k0_hw30 => k0_hw30

def k0_chk31 (v263 : IVec S16 32) : Prop :=
  (∀ a x, ((![v263] : Fin 1 → IVec S16 32) a x).toNat < S32768.size a)
theorem k0_idx31_inb : ∀ (v263 : IVec S16 32) (k0_hw31 : k0_chk31 v263), ∀ a x, ((![v263] : Fin 1 → IVec S16 32) a x).toNat < S32768.size a := fun v263 k0_hw31 => k0_hw31

def k0_chk32 (v266 : IVec S16 32) : Prop :=
  (∀ a x, ((![v266] : Fin 1 → IVec S16 32) a x).toNat < S32768.size a)
theorem k0_idx32_inb : ∀ (v266 : IVec S16 32) (k0_hw32 : k0_chk32 v266), ∀ a x, ((![v266] : Fin 1 → IVec S16 32) a x).toNat < S32768.size a := fun v266 k0_hw32 => k0_hw32

def k0_chk33 (v269 : IVec S16 32) : Prop :=
  (∀ a x, ((![v269] : Fin 1 → IVec S16 32) a x).toNat < S32768.size a)
theorem k0_idx33_inb : ∀ (v269 : IVec S16 32) (k0_hw33 : k0_chk33 v269), ∀ a x, ((![v269] : Fin 1 → IVec S16 32) a x).toNat < S32768.size a := fun v269 k0_hw33 => k0_hw33

def k0_chk34 (v272 : IVec S16 32) : Prop :=
  (∀ a x, ((![v272] : Fin 1 → IVec S16 32) a x).toNat < S32768.size a)
theorem k0_idx34_inb : ∀ (v272 : IVec S16 32) (k0_hw34 : k0_chk34 v272), ∀ a x, ((![v272] : Fin 1 → IVec S16 32) a x).toNat < S32768.size a := fun v272 k0_hw34 => k0_hw34

def k0_chk35 (v275 : IVec S16 32) : Prop :=
  (∀ a x, ((![v275] : Fin 1 → IVec S16 32) a x).toNat < S32768.size a)
theorem k0_idx35_inb : ∀ (v275 : IVec S16 32) (k0_hw35 : k0_chk35 v275), ∀ a x, ((![v275] : Fin 1 → IVec S16 32) a x).toNat < S32768.size a := fun v275 k0_hw35 => k0_hw35
def k0_off6 (k0_t4 : Fin k0_t4_loop.trips) : Fin 1 → Nat :=
  let c0_i32_23 : BitVec 32 := 0#32
  let c1_i32_25 : BitVec 32 := 1#32
  let arg9 : BitVec 32 := Scf.iv c0_i32_23 c1_i32_25 k0_t4
  let c16_i32 : BitVec 32 := 16#32
  let v249 : BitVec 32 := Scalar.muli arg9 c16_i32
  let v297 : Index := Scalar.indexCast v249
  ![v297.toNat]

def k0_chk36 (v302 : IVec S16 32) : Prop :=
  (∀ a x, ((![v302] : Fin 1 → IVec S16 32) a x).toNat < S1024.size a)
theorem k0_idx36_inb : ∀ (v302 : IVec S16 32) (k0_hw36 : k0_chk36 v302), ∀ a x, ((![v302] : Fin 1 → IVec S16 32) a x).toNat < S1024.size a := fun v302 k0_hw36 => k0_hw36
@[reducible] def k0_t5_loop : Scf.Loop 32 :=
  let c0_i32_29 : BitVec 32 := 0#32
  let c256_i32_30 : BitVec 32 := 256#32
  let v100 : BitVec 32 := Scalar.addi c0_i32_29 c256_i32_30
  let c1_i32_31 : BitVec 32 := 1#32
  ⟨c0_i32_29, v100, c1_i32_31⟩

def k0_chk37 (v254 : IVec S16 32) : Prop :=
  (∀ a x, ((![v254] : Fin 1 → IVec S16 32) a x).toNat < S32768.size a)
theorem k0_idx37_inb : ∀ (v254 : IVec S16 32) (k0_hw37 : k0_chk37 v254), ∀ a x, ((![v254] : Fin 1 → IVec S16 32) a x).toNat < S32768.size a := fun v254 k0_hw37 => k0_hw37

def k0_chk38 (v257 : IVec S16 32) : Prop :=
  (∀ a x, ((![v257] : Fin 1 → IVec S16 32) a x).toNat < S32768.size a)
theorem k0_idx38_inb : ∀ (v257 : IVec S16 32) (k0_hw38 : k0_chk38 v257), ∀ a x, ((![v257] : Fin 1 → IVec S16 32) a x).toNat < S32768.size a := fun v257 k0_hw38 => k0_hw38

def k0_chk39 (v260 : IVec S16 32) : Prop :=
  (∀ a x, ((![v260] : Fin 1 → IVec S16 32) a x).toNat < S32768.size a)
theorem k0_idx39_inb : ∀ (v260 : IVec S16 32) (k0_hw39 : k0_chk39 v260), ∀ a x, ((![v260] : Fin 1 → IVec S16 32) a x).toNat < S32768.size a := fun v260 k0_hw39 => k0_hw39

def k0_chk40 (v263 : IVec S16 32) : Prop :=
  (∀ a x, ((![v263] : Fin 1 → IVec S16 32) a x).toNat < S32768.size a)
theorem k0_idx40_inb : ∀ (v263 : IVec S16 32) (k0_hw40 : k0_chk40 v263), ∀ a x, ((![v263] : Fin 1 → IVec S16 32) a x).toNat < S32768.size a := fun v263 k0_hw40 => k0_hw40

def k0_chk41 (v266 : IVec S16 32) : Prop :=
  (∀ a x, ((![v266] : Fin 1 → IVec S16 32) a x).toNat < S32768.size a)
theorem k0_idx41_inb : ∀ (v266 : IVec S16 32) (k0_hw41 : k0_chk41 v266), ∀ a x, ((![v266] : Fin 1 → IVec S16 32) a x).toNat < S32768.size a := fun v266 k0_hw41 => k0_hw41

def k0_chk42 (v269 : IVec S16 32) : Prop :=
  (∀ a x, ((![v269] : Fin 1 → IVec S16 32) a x).toNat < S32768.size a)
theorem k0_idx42_inb : ∀ (v269 : IVec S16 32) (k0_hw42 : k0_chk42 v269), ∀ a x, ((![v269] : Fin 1 → IVec S16 32) a x).toNat < S32768.size a := fun v269 k0_hw42 => k0_hw42

def k0_chk43 (v272 : IVec S16 32) : Prop :=
  (∀ a x, ((![v272] : Fin 1 → IVec S16 32) a x).toNat < S32768.size a)
theorem k0_idx43_inb : ∀ (v272 : IVec S16 32) (k0_hw43 : k0_chk43 v272), ∀ a x, ((![v272] : Fin 1 → IVec S16 32) a x).toNat < S32768.size a := fun v272 k0_hw43 => k0_hw43

def k0_chk44 (v275 : IVec S16 32) : Prop :=
  (∀ a x, ((![v275] : Fin 1 → IVec S16 32) a x).toNat < S32768.size a)
theorem k0_idx44_inb : ∀ (v275 : IVec S16 32) (k0_hw44 : k0_chk44 v275), ∀ a x, ((![v275] : Fin 1 → IVec S16 32) a x).toNat < S32768.size a := fun v275 k0_hw44 => k0_hw44
def k0_off7 (k0_t5 : Fin k0_t5_loop.trips) : Fin 1 → Nat :=
  let c0_i32_29 : BitVec 32 := 0#32
  let c1_i32_31 : BitVec 32 := 1#32
  let arg9 : BitVec 32 := Scf.iv c0_i32_29 c1_i32_31 k0_t5
  let c16_i32 : BitVec 32 := 16#32
  let v249 : BitVec 32 := Scalar.muli arg9 c16_i32
  let v297 : Index := Scalar.indexCast v249
  ![v297.toNat]

def k0_chk45 (v302 : IVec S16 32) : Prop :=
  (∀ a x, ((![v302] : Fin 1 → IVec S16 32) a x).toNat < S1024.size a)
theorem k0_idx45_inb : ∀ (v302 : IVec S16 32) (k0_hw45 : k0_chk45 v302), ∀ a x, ((![v302] : Fin 1 → IVec S16 32) a x).toNat < S1024.size a := fun v302 k0_hw45 => k0_hw45
@[reducible] def k0_t6_loop : Scf.Loop 32 :=
  let c0_i32_35 : BitVec 32 := 0#32
  let c256_i32_36 : BitVec 32 := 256#32
  let v104 : BitVec 32 := Scalar.addi c0_i32_35 c256_i32_36
  let c1_i32_37 : BitVec 32 := 1#32
  ⟨c0_i32_35, v104, c1_i32_37⟩

def k0_chk46 (v254 : IVec S16 32) : Prop :=
  (∀ a x, ((![v254] : Fin 1 → IVec S16 32) a x).toNat < S32768.size a)
theorem k0_idx46_inb : ∀ (v254 : IVec S16 32) (k0_hw46 : k0_chk46 v254), ∀ a x, ((![v254] : Fin 1 → IVec S16 32) a x).toNat < S32768.size a := fun v254 k0_hw46 => k0_hw46

def k0_chk47 (v257 : IVec S16 32) : Prop :=
  (∀ a x, ((![v257] : Fin 1 → IVec S16 32) a x).toNat < S32768.size a)
theorem k0_idx47_inb : ∀ (v257 : IVec S16 32) (k0_hw47 : k0_chk47 v257), ∀ a x, ((![v257] : Fin 1 → IVec S16 32) a x).toNat < S32768.size a := fun v257 k0_hw47 => k0_hw47

def k0_chk48 (v260 : IVec S16 32) : Prop :=
  (∀ a x, ((![v260] : Fin 1 → IVec S16 32) a x).toNat < S32768.size a)
theorem k0_idx48_inb : ∀ (v260 : IVec S16 32) (k0_hw48 : k0_chk48 v260), ∀ a x, ((![v260] : Fin 1 → IVec S16 32) a x).toNat < S32768.size a := fun v260 k0_hw48 => k0_hw48

def k0_chk49 (v263 : IVec S16 32) : Prop :=
  (∀ a x, ((![v263] : Fin 1 → IVec S16 32) a x).toNat < S32768.size a)
theorem k0_idx49_inb : ∀ (v263 : IVec S16 32) (k0_hw49 : k0_chk49 v263), ∀ a x, ((![v263] : Fin 1 → IVec S16 32) a x).toNat < S32768.size a := fun v263 k0_hw49 => k0_hw49

def k0_chk50 (v266 : IVec S16 32) : Prop :=
  (∀ a x, ((![v266] : Fin 1 → IVec S16 32) a x).toNat < S32768.size a)
theorem k0_idx50_inb : ∀ (v266 : IVec S16 32) (k0_hw50 : k0_chk50 v266), ∀ a x, ((![v266] : Fin 1 → IVec S16 32) a x).toNat < S32768.size a := fun v266 k0_hw50 => k0_hw50

def k0_chk51 (v269 : IVec S16 32) : Prop :=
  (∀ a x, ((![v269] : Fin 1 → IVec S16 32) a x).toNat < S32768.size a)
theorem k0_idx51_inb : ∀ (v269 : IVec S16 32) (k0_hw51 : k0_chk51 v269), ∀ a x, ((![v269] : Fin 1 → IVec S16 32) a x).toNat < S32768.size a := fun v269 k0_hw51 => k0_hw51

def k0_chk52 (v272 : IVec S16 32) : Prop :=
  (∀ a x, ((![v272] : Fin 1 → IVec S16 32) a x).toNat < S32768.size a)
theorem k0_idx52_inb : ∀ (v272 : IVec S16 32) (k0_hw52 : k0_chk52 v272), ∀ a x, ((![v272] : Fin 1 → IVec S16 32) a x).toNat < S32768.size a := fun v272 k0_hw52 => k0_hw52

def k0_chk53 (v275 : IVec S16 32) : Prop :=
  (∀ a x, ((![v275] : Fin 1 → IVec S16 32) a x).toNat < S32768.size a)
theorem k0_idx53_inb : ∀ (v275 : IVec S16 32) (k0_hw53 : k0_chk53 v275), ∀ a x, ((![v275] : Fin 1 → IVec S16 32) a x).toNat < S32768.size a := fun v275 k0_hw53 => k0_hw53
def k0_off8 (k0_t6 : Fin k0_t6_loop.trips) : Fin 1 → Nat :=
  let c0_i32_35 : BitVec 32 := 0#32
  let c1_i32_37 : BitVec 32 := 1#32
  let arg9 : BitVec 32 := Scf.iv c0_i32_35 c1_i32_37 k0_t6
  let c16_i32 : BitVec 32 := 16#32
  let v249 : BitVec 32 := Scalar.muli arg9 c16_i32
  let v297 : Index := Scalar.indexCast v249
  ![v297.toNat]

def k0_chk54 (v302 : IVec S16 32) : Prop :=
  (∀ a x, ((![v302] : Fin 1 → IVec S16 32) a x).toNat < S1024.size a)
theorem k0_idx54_inb : ∀ (v302 : IVec S16 32) (k0_hw54 : k0_chk54 v302), ∀ a x, ((![v302] : Fin 1 → IVec S16 32) a x).toNat < S1024.size a := fun v302 k0_hw54 => k0_hw54
@[reducible] def k0_t7_loop : Scf.Loop 32 :=
  let c0_i32_41 : BitVec 32 := 0#32
  let c256_i32_42 : BitVec 32 := 256#32
  let v108 : BitVec 32 := Scalar.addi c0_i32_41 c256_i32_42
  let c1_i32_43 : BitVec 32 := 1#32
  ⟨c0_i32_41, v108, c1_i32_43⟩

def k0_chk55 (v254 : IVec S16 32) : Prop :=
  (∀ a x, ((![v254] : Fin 1 → IVec S16 32) a x).toNat < S32768.size a)
theorem k0_idx55_inb : ∀ (v254 : IVec S16 32) (k0_hw55 : k0_chk55 v254), ∀ a x, ((![v254] : Fin 1 → IVec S16 32) a x).toNat < S32768.size a := fun v254 k0_hw55 => k0_hw55

def k0_chk56 (v257 : IVec S16 32) : Prop :=
  (∀ a x, ((![v257] : Fin 1 → IVec S16 32) a x).toNat < S32768.size a)
theorem k0_idx56_inb : ∀ (v257 : IVec S16 32) (k0_hw56 : k0_chk56 v257), ∀ a x, ((![v257] : Fin 1 → IVec S16 32) a x).toNat < S32768.size a := fun v257 k0_hw56 => k0_hw56

def k0_chk57 (v260 : IVec S16 32) : Prop :=
  (∀ a x, ((![v260] : Fin 1 → IVec S16 32) a x).toNat < S32768.size a)
theorem k0_idx57_inb : ∀ (v260 : IVec S16 32) (k0_hw57 : k0_chk57 v260), ∀ a x, ((![v260] : Fin 1 → IVec S16 32) a x).toNat < S32768.size a := fun v260 k0_hw57 => k0_hw57

def k0_chk58 (v263 : IVec S16 32) : Prop :=
  (∀ a x, ((![v263] : Fin 1 → IVec S16 32) a x).toNat < S32768.size a)
theorem k0_idx58_inb : ∀ (v263 : IVec S16 32) (k0_hw58 : k0_chk58 v263), ∀ a x, ((![v263] : Fin 1 → IVec S16 32) a x).toNat < S32768.size a := fun v263 k0_hw58 => k0_hw58

def k0_chk59 (v266 : IVec S16 32) : Prop :=
  (∀ a x, ((![v266] : Fin 1 → IVec S16 32) a x).toNat < S32768.size a)
theorem k0_idx59_inb : ∀ (v266 : IVec S16 32) (k0_hw59 : k0_chk59 v266), ∀ a x, ((![v266] : Fin 1 → IVec S16 32) a x).toNat < S32768.size a := fun v266 k0_hw59 => k0_hw59

def k0_chk60 (v269 : IVec S16 32) : Prop :=
  (∀ a x, ((![v269] : Fin 1 → IVec S16 32) a x).toNat < S32768.size a)
theorem k0_idx60_inb : ∀ (v269 : IVec S16 32) (k0_hw60 : k0_chk60 v269), ∀ a x, ((![v269] : Fin 1 → IVec S16 32) a x).toNat < S32768.size a := fun v269 k0_hw60 => k0_hw60

def k0_chk61 (v272 : IVec S16 32) : Prop :=
  (∀ a x, ((![v272] : Fin 1 → IVec S16 32) a x).toNat < S32768.size a)
theorem k0_idx61_inb : ∀ (v272 : IVec S16 32) (k0_hw61 : k0_chk61 v272), ∀ a x, ((![v272] : Fin 1 → IVec S16 32) a x).toNat < S32768.size a := fun v272 k0_hw61 => k0_hw61

def k0_chk62 (v275 : IVec S16 32) : Prop :=
  (∀ a x, ((![v275] : Fin 1 → IVec S16 32) a x).toNat < S32768.size a)
theorem k0_idx62_inb : ∀ (v275 : IVec S16 32) (k0_hw62 : k0_chk62 v275), ∀ a x, ((![v275] : Fin 1 → IVec S16 32) a x).toNat < S32768.size a := fun v275 k0_hw62 => k0_hw62
def k0_off9 (k0_t7 : Fin k0_t7_loop.trips) : Fin 1 → Nat :=
  let c0_i32_41 : BitVec 32 := 0#32
  let c1_i32_43 : BitVec 32 := 1#32
  let arg9 : BitVec 32 := Scf.iv c0_i32_41 c1_i32_43 k0_t7
  let c16_i32 : BitVec 32 := 16#32
  let v249 : BitVec 32 := Scalar.muli arg9 c16_i32
  let v297 : Index := Scalar.indexCast v249
  ![v297.toNat]

def k0_chk63 (v302 : IVec S16 32) : Prop :=
  (∀ a x, ((![v302] : Fin 1 → IVec S16 32) a x).toNat < S1024.size a)
theorem k0_idx63_inb : ∀ (v302 : IVec S16 32) (k0_hw63 : k0_chk63 v302), ∀ a x, ((![v302] : Fin 1 → IVec S16 32) a x).toNat < S1024.size a := fun v302 k0_hw63 => k0_hw63
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31248_i32 : BitVec 32 := 31248#32
  let v81 : BitVec 32 := Scalar.muli v1 c31248_i32
  let c28672_i32 : BitVec 32 := 28672#32
  let v110 : BitVec 32 := Scalar.addi v81 c28672_i32
  let c8_i32_45 : BitVec 32 := 8#32
  let v111 : BitVec 32 := Scalar.muli v110 c8_i32_45
  ![v111.toNat]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31248_i32 : BitVec 32 := 31248#32
  let v81 : BitVec 32 := Scalar.muli v1 c31248_i32
  let c28672_i32 : BitVec 32 := 28672#32
  let v110 : BitVec 32 := Scalar.addi v81 c28672_i32
  ![v110.toNat]
@[reducible] def k0_t8_loop : Scf.Loop 32 :=
  let c0_i32_47 : BitVec 32 := 0#32
  let c161_i32 : BitVec 32 := 161#32
  let v112 : BitVec 32 := Scalar.addi c0_i32_47 c161_i32
  let c1_i32_48 : BitVec 32 := 1#32
  ⟨c0_i32_47, v112, c1_i32_48⟩

def k0_chk64 (v254 : IVec S16 32) : Prop :=
  (∀ a x, ((![v254] : Fin 1 → IVec S16 32) a x).toNat < S32768.size a)
theorem k0_idx64_inb : ∀ (v254 : IVec S16 32) (k0_hw64 : k0_chk64 v254), ∀ a x, ((![v254] : Fin 1 → IVec S16 32) a x).toNat < S32768.size a := fun v254 k0_hw64 => k0_hw64

def k0_chk65 (v257 : IVec S16 32) : Prop :=
  (∀ a x, ((![v257] : Fin 1 → IVec S16 32) a x).toNat < S32768.size a)
theorem k0_idx65_inb : ∀ (v257 : IVec S16 32) (k0_hw65 : k0_chk65 v257), ∀ a x, ((![v257] : Fin 1 → IVec S16 32) a x).toNat < S32768.size a := fun v257 k0_hw65 => k0_hw65

def k0_chk66 (v260 : IVec S16 32) : Prop :=
  (∀ a x, ((![v260] : Fin 1 → IVec S16 32) a x).toNat < S32768.size a)
theorem k0_idx66_inb : ∀ (v260 : IVec S16 32) (k0_hw66 : k0_chk66 v260), ∀ a x, ((![v260] : Fin 1 → IVec S16 32) a x).toNat < S32768.size a := fun v260 k0_hw66 => k0_hw66

def k0_chk67 (v263 : IVec S16 32) : Prop :=
  (∀ a x, ((![v263] : Fin 1 → IVec S16 32) a x).toNat < S32768.size a)
theorem k0_idx67_inb : ∀ (v263 : IVec S16 32) (k0_hw67 : k0_chk67 v263), ∀ a x, ((![v263] : Fin 1 → IVec S16 32) a x).toNat < S32768.size a := fun v263 k0_hw67 => k0_hw67

def k0_chk68 (v266 : IVec S16 32) : Prop :=
  (∀ a x, ((![v266] : Fin 1 → IVec S16 32) a x).toNat < S32768.size a)
theorem k0_idx68_inb : ∀ (v266 : IVec S16 32) (k0_hw68 : k0_chk68 v266), ∀ a x, ((![v266] : Fin 1 → IVec S16 32) a x).toNat < S32768.size a := fun v266 k0_hw68 => k0_hw68

def k0_chk69 (v269 : IVec S16 32) : Prop :=
  (∀ a x, ((![v269] : Fin 1 → IVec S16 32) a x).toNat < S32768.size a)
theorem k0_idx69_inb : ∀ (v269 : IVec S16 32) (k0_hw69 : k0_chk69 v269), ∀ a x, ((![v269] : Fin 1 → IVec S16 32) a x).toNat < S32768.size a := fun v269 k0_hw69 => k0_hw69

def k0_chk70 (v272 : IVec S16 32) : Prop :=
  (∀ a x, ((![v272] : Fin 1 → IVec S16 32) a x).toNat < S32768.size a)
theorem k0_idx70_inb : ∀ (v272 : IVec S16 32) (k0_hw70 : k0_chk70 v272), ∀ a x, ((![v272] : Fin 1 → IVec S16 32) a x).toNat < S32768.size a := fun v272 k0_hw70 => k0_hw70

def k0_chk71 (v275 : IVec S16 32) : Prop :=
  (∀ a x, ((![v275] : Fin 1 → IVec S16 32) a x).toNat < S32768.size a)
theorem k0_idx71_inb : ∀ (v275 : IVec S16 32) (k0_hw71 : k0_chk71 v275), ∀ a x, ((![v275] : Fin 1 → IVec S16 32) a x).toNat < S32768.size a := fun v275 k0_hw71 => k0_hw71
def k0_off12 (k0_t8 : Fin k0_t8_loop.trips) : Fin 1 → Nat :=
  let c0_i32_47 : BitVec 32 := 0#32
  let c1_i32_48 : BitVec 32 := 1#32
  let arg9 : BitVec 32 := Scf.iv c0_i32_47 c1_i32_48 k0_t8
  let c16_i32 : BitVec 32 := 16#32
  let v249 : BitVec 32 := Scalar.muli arg9 c16_i32
  let v297 : Index := Scalar.indexCast v249
  ![v297.toNat]

def k0_chk72 (v302 : IVec S16 32) : Prop :=
  (∀ a x, ((![v302] : Fin 1 → IVec S16 32) a x).toNat < S1024.size a)
theorem k0_idx72_inb : ∀ (v302 : IVec S16 32) (k0_hw72 : k0_chk72 v302), ∀ a x, ((![v302] : Fin 1 → IVec S16 32) a x).toNat < S1024.size a := fun v302 k0_hw72 => k0_hw72
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_50 : BitVec 32 := 4#32
  let v114 : BitVec 1 := Scalar.cmpi .slt v1 c4_i32_50
  let v115 : BitVec 32 := Scalar.extui v114
  let c0_i32_51 : BitVec 32 := 0#32
  let v116 : BitVec 1 := Scalar.cmpi .ne v115 c0_i32_51
  v116

def k0_off13 (i : grid0.Coords) : Fin 1 → Nat :=
  let c999936_i32 : BitVec 32 := 999936#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v249 : BitVec 32 := Scalar.muli v1 c16_i32
  let v250 : BitVec 32 := Scalar.addi c999936_i32 v249
  let c8_i32_120 : BitVec 32 := 8#32
  let v251 : BitVec 32 := Scalar.muli v250 c8_i32_120
  ![v251.toNat]
def k0_off14 (i : grid0.Coords) : Fin 1 → Nat :=
  let c999936_i32 : BitVec 32 := 999936#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v249 : BitVec 32 := Scalar.muli v1 c16_i32
  let v250 : BitVec 32 := Scalar.addi c999936_i32 v249
  ![v250.toNat]

def k0_chk73 (i : grid0.Coords) (v257 : IVec S16 32) : Prop :=
  (∀ (k0_h1 : k0_cond1 i = 1#1), ∀ a x, ((![v257] : Fin 1 → IVec S16 32) a x).toNat < S32768.size a)
theorem k0_idx73_inb : ∀ (i : grid0.Coords) (v257 : IVec S16 32) (k0_hw73 : k0_chk73 i v257), ∀ (k0_h1 : k0_cond1 i = 1#1), ∀ a x, ((![v257] : Fin 1 → IVec S16 32) a x).toNat < S32768.size a := fun i v257 k0_hw73 k0_h1 => k0_hw73 k0_h1

def k0_chk74 (i : grid0.Coords) (v260 : IVec S16 32) : Prop :=
  (∀ (k0_h1 : k0_cond1 i = 1#1), ∀ a x, ((![v260] : Fin 1 → IVec S16 32) a x).toNat < S32768.size a)
theorem k0_idx74_inb : ∀ (i : grid0.Coords) (v260 : IVec S16 32) (k0_hw74 : k0_chk74 i v260), ∀ (k0_h1 : k0_cond1 i = 1#1), ∀ a x, ((![v260] : Fin 1 → IVec S16 32) a x).toNat < S32768.size a := fun i v260 k0_hw74 k0_h1 => k0_hw74 k0_h1

def k0_chk75 (i : grid0.Coords) (v263 : IVec S16 32) : Prop :=
  (∀ (k0_h1 : k0_cond1 i = 1#1), ∀ a x, ((![v263] : Fin 1 → IVec S16 32) a x).toNat < S32768.size a)
theorem k0_idx75_inb : ∀ (i : grid0.Coords) (v263 : IVec S16 32) (k0_hw75 : k0_chk75 i v263), ∀ (k0_h1 : k0_cond1 i = 1#1), ∀ a x, ((![v263] : Fin 1 → IVec S16 32) a x).toNat < S32768.size a := fun i v263 k0_hw75 k0_h1 => k0_hw75 k0_h1

def k0_chk76 (i : grid0.Coords) (v266 : IVec S16 32) : Prop :=
  (∀ (k0_h1 : k0_cond1 i = 1#1), ∀ a x, ((![v266] : Fin 1 → IVec S16 32) a x).toNat < S32768.size a)
theorem k0_idx76_inb : ∀ (i : grid0.Coords) (v266 : IVec S16 32) (k0_hw76 : k0_chk76 i v266), ∀ (k0_h1 : k0_cond1 i = 1#1), ∀ a x, ((![v266] : Fin 1 → IVec S16 32) a x).toNat < S32768.size a := fun i v266 k0_hw76 k0_h1 => k0_hw76 k0_h1

def k0_chk77 (i : grid0.Coords) (v269 : IVec S16 32) : Prop :=
  (∀ (k0_h1 : k0_cond1 i = 1#1), ∀ a x, ((![v269] : Fin 1 → IVec S16 32) a x).toNat < S32768.size a)
theorem k0_idx77_inb : ∀ (i : grid0.Coords) (v269 : IVec S16 32) (k0_hw77 : k0_chk77 i v269), ∀ (k0_h1 : k0_cond1 i = 1#1), ∀ a x, ((![v269] : Fin 1 → IVec S16 32) a x).toNat < S32768.size a := fun i v269 k0_hw77 k0_h1 => k0_hw77 k0_h1

def k0_chk78 (i : grid0.Coords) (v272 : IVec S16 32) : Prop :=
  (∀ (k0_h1 : k0_cond1 i = 1#1), ∀ a x, ((![v272] : Fin 1 → IVec S16 32) a x).toNat < S32768.size a)
theorem k0_idx78_inb : ∀ (i : grid0.Coords) (v272 : IVec S16 32) (k0_hw78 : k0_chk78 i v272), ∀ (k0_h1 : k0_cond1 i = 1#1), ∀ a x, ((![v272] : Fin 1 → IVec S16 32) a x).toNat < S32768.size a := fun i v272 k0_hw78 k0_h1 => k0_hw78 k0_h1

def k0_chk79 (i : grid0.Coords) (v275 : IVec S16 32) : Prop :=
  (∀ (k0_h1 : k0_cond1 i = 1#1), ∀ a x, ((![v275] : Fin 1 → IVec S16 32) a x).toNat < S32768.size a)
theorem k0_idx79_inb : ∀ (i : grid0.Coords) (v275 : IVec S16 32) (k0_hw79 : k0_chk79 i v275), ∀ (k0_h1 : k0_cond1 i = 1#1), ∀ a x, ((![v275] : Fin 1 → IVec S16 32) a x).toNat < S32768.size a := fun i v275 k0_hw79 k0_h1 => k0_hw79 k0_h1

def k0_chk80 (i : grid0.Coords) (v278 : IVec S16 32) : Prop :=
  (∀ (k0_h1 : k0_cond1 i = 1#1), ∀ a x, ((![v278] : Fin 1 → IVec S16 32) a x).toNat < S32768.size a)
theorem k0_idx80_inb : ∀ (i : grid0.Coords) (v278 : IVec S16 32) (k0_hw80 : k0_chk80 i v278), ∀ (k0_h1 : k0_cond1 i = 1#1), ∀ a x, ((![v278] : Fin 1 → IVec S16 32) a x).toNat < S32768.size a := fun i v278 k0_hw80 k0_h1 => k0_hw80 k0_h1
def k0_off15 : Fin 1 → Nat :=
  let c0_i32_122 : BitVec 32 := 0#32
  let c16_i32_123 : BitVec 32 := 16#32
  let v252 : BitVec 32 := Scalar.muli c0_i32_122 c16_i32_123
  let v300 : Index := Scalar.indexCast v252
  ![v300.toNat]

def k0_chk81 (i : grid0.Coords) (v305 : IVec S16 32) : Prop :=
  (∀ (k0_h1 : k0_cond1 i = 1#1), ∀ a x, ((![v305] : Fin 1 → IVec S16 32) a x).toNat < S1024.size a)
theorem k0_idx81_inb : ∀ (i : grid0.Coords) (v305 : IVec S16 32) (k0_hw81 : k0_chk81 i v305), ∀ (k0_h1 : k0_cond1 i = 1#1), ∀ a x, ((![v305] : Fin 1 → IVec S16 32) a x).toNat < S1024.size a := fun i v305 k0_hw81 k0_h1 => k0_hw81 k0_h1
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_120_r18 : BitVec 32 := 0#32
  ![v1.toNat, 0]
abbrev grid1 : Pipeline.Grid := .none

abbrev stage1_0 : Fin 1 → Memref sig .tc .vmem S32x8x8 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_n" => some ((1000000⁻¹ : ℝ) : EReal)
  | _ => none
-- ==== ReferenceIdeal.lean ====
abbrev S1000000x8 : Shape := ⟨2, ![1000000, 8]⟩
abbrev S1000000 : Shape := ⟨1, ![1000000]⟩
abbrev S_ : Shape := ⟨0, ![]⟩
abbrev S1000000x1 : Shape := ⟨2, ![1000000, 1]⟩
abbrev S64 : Shape := ⟨1, ![64]⟩
abbrev S8x8 : Shape := ⟨2, ![8, 8]⟩
abbrev S8 : Shape := ⟨1, ![8]⟩
abbrev S8x1 : Shape := ⟨2, ![8, 1]⟩
abbrev S1x8 : Shape := ⟨2, ![1, 8]⟩

abbrev nBuf : Space → Nat
  | .hbm => 98
  | .vmem => 0
  | .smem => 0
  | _ => 0

abbrev bufTy : (tb : Table) → Fin (tcTables nBuf tb) → BufTy
  | .hbm, ⟨0, _⟩ => ⟨S1000000x8, .f32⟩
  | .hbm, ⟨1, _⟩ => ⟨S1000000, .i32⟩
  | .hbm, ⟨2, _⟩ => ⟨S_, .f32⟩
  | .hbm, ⟨3, _⟩ => ⟨S1000000, .f32⟩
  | .hbm, ⟨4, _⟩ => ⟨S_, .f32⟩
  | .hbm, ⟨5, _⟩ => ⟨S1000000, .f32⟩
  | .hbm, ⟨6, _⟩ => ⟨S1000000, .f32⟩
  | .hbm, ⟨7, _⟩ => ⟨S1000000x1, .f32⟩
  | .hbm, ⟨8, _⟩ => ⟨S1000000x8, .f32⟩
  | .hbm, ⟨9, _⟩ => ⟨S1000000x8, .f32⟩
  | .hbm, ⟨10, _⟩ => ⟨S1000000x8, .f32⟩
  | .hbm, ⟨11, _⟩ => ⟨S_, .f32⟩
  | .hbm, ⟨12, _⟩ => ⟨S1000000, .f32⟩
  | .hbm, ⟨13, _⟩ => ⟨S1000000x1, .f32⟩
  | .hbm, ⟨14, _⟩ => ⟨S1000000x8, .f32⟩
  | .hbm, ⟨15, _⟩ => ⟨S1000000x8, .f32⟩
  | .hbm, ⟨16, _⟩ => ⟨S1000000x8, .i32⟩
  | .hbm, ⟨17, _⟩ => ⟨S_, .f32⟩
  | .hbm, ⟨18, _⟩ => ⟨S_, .i32⟩
  | .hbm, ⟨19, _⟩ => ⟨S1000000, .f32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S_, .i32⟩
  | .hbm, ⟨26, _⟩ => ⟨S64, .i32⟩
  | .hbm, ⟨27, _⟩ => ⟨S_, .i32⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S_, .i32⟩
  | .hbm, ⟨40, _⟩ => ⟨S1000000, .i32⟩
  | .hbm, ⟨41, _⟩ => ⟨S64, .i32⟩
  | .hbm, ⟨42, _⟩ => ⟨S8x8, .i32⟩
  | .hbm, ⟨43, _⟩ => ⟨S8x8, .f32⟩
  | .hbm, ⟨44, _⟩ => ⟨S_, .f32⟩
  | .hbm, ⟨45, _⟩ => ⟨S8x8, .f32⟩
  | .hbm, ⟨46, _⟩ => ⟨S8x8, .f32⟩
  | .hbm, ⟨47, _⟩ => ⟨S_, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8x1, .f32⟩
  | .hbm, ⟨52, _⟩ => ⟨S1x8, .f32⟩
  | .hbm, ⟨53, _⟩ => ⟨S8x8, .f32⟩
  | .hbm, ⟨54, _⟩ => ⟨S8x8, .f32⟩
  | .hbm, ⟨55, _⟩ => ⟨S8x8, .f32⟩
  | .hbm, ⟨56, _⟩ => ⟨S8, .f32⟩
  | .hbm, ⟨57, _⟩ => ⟨S8x8, .f32⟩
  | .hbm, ⟨58, _⟩ => ⟨S8x8, .f32⟩
  | .hbm, ⟨59, _⟩ => ⟨S8x8, .f32⟩
  | .hbm, ⟨60, _⟩ => ⟨S8x8, .f32⟩
  | .hbm, ⟨61, _⟩ => ⟨S_, .f32⟩
  | .hbm, ⟨62, _⟩ => ⟨S8x8, .f32⟩
  | .hbm, ⟨63, _⟩ => ⟨S8x8, .f32⟩
  | .hbm, ⟨64, _⟩ => ⟨S_, .f32⟩
  | .hbm, ⟨65, _⟩ => ⟨S8x8, .f32⟩
  | .hbm, ⟨66, _⟩ => ⟨S8x8, .f32⟩
  | .hbm, ⟨67, _⟩ => ⟨S8x8, .f32⟩
  | .hbm, ⟨68, _⟩ => ⟨S_, .f32⟩
  | .hbm, ⟨69, _⟩ => ⟨S_, .f32⟩
  | .hbm, ⟨70, _⟩ => ⟨S8x8, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S1000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_cst_14 : Ref sig .tc := ⟨.hbm, 73, rfl⟩
abbrev main_cst_15 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v49 : Ref sig .tc := ⟨.hbm, 78, rfl⟩
abbrev main_cst_16 : Ref sig .tc := ⟨.hbm, 79, rfl⟩
abbrev main_v50 : Ref sig .tc := ⟨.hbm, 80, rfl⟩
abbrev main_v51 : Ref sig .tc := ⟨.hbm, 81, rfl⟩
abbrev main_cst_17 : Ref sig .tc := ⟨.hbm, 82, rfl⟩
abbrev main_v52 : Ref sig .tc := ⟨.hbm, 83, rfl⟩
abbrev main_cst_18 : Ref sig .tc := ⟨.hbm, 84, rfl⟩
abbrev main_v53 : Ref sig .tc := ⟨.hbm, 85, rfl⟩
abbrev main_v54 : Ref sig .tc := ⟨.hbm, 86, rfl⟩
abbrev main_cst_19 : Ref sig .tc := ⟨.hbm, 87, rfl⟩
abbrev main_call3_v0 : Ref sig .tc := ⟨.hbm, 88, rfl⟩
abbrev main_v55 : Ref sig .tc := ⟨.hbm, 89, rfl⟩
abbrev main_cst_20 : Ref sig .tc := ⟨.hbm, 90, rfl⟩
abbrev main_cst_21 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v56 : Ref sig .tc := ⟨.hbm, 95, rfl⟩
abbrev main_cst_22 : Ref sig .tc := ⟨.hbm, 96, rfl⟩
abbrev main_v57 : Ref sig .tc := ⟨.hbm, 97, rfl⟩

abbrev nD : Nat := 1
abbrev τ : Topo := Topo.v7x

variable {F : FTy → Type} [FloatOps F]
-- ==== Proof.Hist.lean ====
/- The arithmetic of one tile's histogram, with no program in sight: flat vectors written as functions of a natural
   number, the tournament that picks the largest of eight scores, the bin of a row, the tally of the slots that a run of
   rows adds one to, and what an indexed store that adds ones does to a table. -/
module

public import Idealize.ShloMosaic.Lib.Tactic
public import Idealize.ShloMosaic.Lib.SortFacts
public import Mathlib.Data.BitVec
public import Mathlib.Algebra.BigOperators.Intervals
public import Mathlib.Tactic.Ring

@[expose] public section

noncomputable section

namespace Cert.Proof.Hist

open Idealize.ShloMosaic

/-! ## Flat vectors as functions of a natural number -/

/-- The shape of a flat vector of `n` elements. -/
abbrev Sh (n : ℕ) : Shape := ⟨1, ![n]⟩

/-- The flat vector whose element `k` is `H k`. -/
def vec1 {α : Type} (n : ℕ) (H : ℕ → α) : (Sh n).Idx → α := fun x => H (x 0).val

/-- Element `k` of a flat vector (wrapped past the end, so that it is total). -/
def nat1 {α : Type} {n : ℕ} (hn : 0 < n) (f : (Sh n).Idx → α) (k : ℕ) : α := f (Shape.Idx.ofFin ⟨k % n, Nat.mod_lt _ hn⟩)

@[simp] theorem vec1_apply {α : Type} (n : ℕ) (H : ℕ → α) (x : (Sh n).Idx) : vec1 n H x = H (x 0).val := rfl

/-- The coordinate of a flat index is below the length. -/
theorem idx_lt {n : ℕ} (x : (Sh n).Idx) : (x 0).val < n := (x 0).isLt

/-- A flat index is its one coordinate. -/
theorem ofFin_coord {n : ℕ} (x : (Sh n).Idx) (h : (x 0).val < n) : Shape.Idx.ofFin (n := n) ⟨(x 0).val, h⟩ = x := by
  funext a
  have : a = 0 := Subsingleton.elim _ _
  subst this; exact Fin.ext rfl

/-- A flat vector is the function of its elements. -/
theorem vec1_nat1 {α : Type} {n : ℕ} (hn : 0 < n) (f : (Sh n).Idx → α) : vec1 n (nat1 hn f) = f := by
  funext x
  show f (Shape.Idx.ofFin ⟨(x 0).val % n, _⟩) = f x
  congr 1
  funext a
  have : a = 0 := Subsingleton.elim _ _
  subst this; exact Fin.ext (Nat.mod_eq_of_lt (idx_lt x))

/-- Flat vectors that agree below their length are one. -/
theorem vec1_congr {α : Type} {n : ℕ} {H H' : ℕ → α} (h : ∀ k < n, H k = H' k) : vec1 n H = vec1 n H' :=
  funext fun x => h _ (idx_lt x)

/-- An element inside the range, read at its own position. -/
theorem nat1_eq {α : Type} {n : ℕ} (hn : 0 < n) (f : (Sh n).Idx → α) (x : (Sh n).Idx) : nat1 hn f (x 0).val = f x :=
  congrFun (vec1_nat1 hn f) x

/-! ## The largest of eight scores -/

variable {F : FTy → Type} [FloatOps F]

/-- The larger of two scores, the first when neither is larger. -/
def best2 (x y : F .f32) : F .f32 := Scalar.select (FloatOps.cmpf .ogt y x) y x

/-- The label of the larger of two scores, the first's when neither is larger. -/
def pick2 (x y : F .f32) (i j : BitVec 32) : BitVec 32 := Scalar.select (FloatOps.cmpf .ogt y x) j i

/-- The position of the largest of eight scores, by a tournament over pairs. -/
def pred8 (x : ℕ → F .f32) : BitVec 32 :=
  pick2 (best2 (best2 (x 0) (x 1)) (best2 (x 2) (x 3))) (best2 (best2 (x 4) (x 5)) (best2 (x 6) (x 7)))
    (pick2 (best2 (x 0) (x 1)) (best2 (x 2) (x 3)) (pick2 (x 0) (x 1) 0#32 1#32) (pick2 (x 2) (x 3) 2#32 3#32))
    (pick2 (best2 (x 4) (x 5)) (best2 (x 6) (x 7)) (pick2 (x 4) (x 5) 4#32 5#32) (pick2 (x 6) (x 7) 6#32 7#32))

theorem pick2_cases (x y : F .f32) (i j : BitVec 32) : pick2 x y i j = i ∨ pick2 x y i j = j := by
  unfold pick2 Scalar.select; split <;> simp

/-- The tournament's winner is one of the eight positions. -/
theorem pred8_lt (x : ℕ → F .f32) : (pred8 x).toNat < 8 := by
  unfold pred8
  rcases pick2_cases (x 0) (x 1) 0#32 1#32 with h | h <;> rcases pick2_cases (x 2) (x 3) 2#32 3#32 with h' | h' <;>
  rcases pick2_cases (x 4) (x 5) 4#32 5#32 with g | g <;> rcases pick2_cases (x 6) (x 7) 6#32 7#32 with g' | g' <;>
  rw [h, h', g, g'] <;> simp only [pick2, Scalar.select] <;> split_ifs <;> decide

/-! ## A row's bin, and the tally of a run of rows -/

/-- The bin of row `r`: its target class times eight plus its predicted class. -/
def bin (X : ℕ → F .f32) (T : ℕ → BitVec 32) (r : ℕ) : ℕ := (T r * 8#32 + pred8 fun j => X (8 * r + j)).toNat

/-- A bin is the target class times eight plus the prediction, with no wrap, when the target class is below eight. -/
theorem bin_eq (X : ℕ → F .f32) (T : ℕ → BitVec 32) (r : ℕ) (h : (T r).toNat < 8) :
    bin X T r = (T r).toNat * 8 + (pred8 fun j => X (8 * r + j)).toNat := by
  have := pred8_lt fun j => X (8 * r + j)
  unfold bin
  rw [BitVec.toNat_add, BitVec.toNat_mul]
  simp only [BitVec.toNat_ofNat, Nat.reducePow, Nat.reduceMod]
  omega

/-- A row whose target class is below eight has a bin below sixty-four. -/
theorem bin_lt (X : ℕ → F .f32) (T : ℕ → BitVec 32) (r : ℕ) (h : (T r).toNat < 8) : bin X T r < 64 := by
  have := pred8_lt fun j => X (8 * r + j)
  rw [bin_eq X T r h]; omega

/-- The bin of a row depends on its target and its eight scores only. -/
theorem bin_congr {X X' : ℕ → F .f32} {T T' : ℕ → BitVec 32} {r r' : ℕ} (hT : T r = T' r') (hX : ∀ j < 8, X (8 * r + j) = X' (8 * r' + j)) :
    bin X T r = bin X' T' r' := by
  have h0 := hX 0 (by omega); have h1 := hX 1 (by omega); have h2 := hX 2 (by omega); have h3 := hX 3 (by omega)
  have h4 := hX 4 (by omega); have h5 := hX 5 (by omega); have h6 := hX 6 (by omega); have h7 := hX 7 (by omega)
  simp only [bin, pred8, hT, h0, h1, h2, h3, h4, h5, h6, h7]

/-- The scores from element `8 * B` on. -/
def shX (X : ℕ → F .f32) (B : ℕ) : ℕ → F .f32 := fun k => X (8 * B + k)
/-- The targets from element `B` on. -/
def shT (T : ℕ → BitVec 32) (B : ℕ) : ℕ → BitVec 32 := fun k => T (B + k)

/-- Row `r` past row `B` is row `B + r`. -/
theorem bin_sh (X : ℕ → F .f32) (T : ℕ → BitVec 32) (B r : ℕ) : bin (shX X B) (shT T B) r = bin X T (B + r) :=
  bin_congr rfl fun j _ => by unfold shX; congr 1; omega

/-- One when the two numbers agree, else zero. -/
def ind (a b : ℕ) : BitVec 32 := if a = b then 1#32 else 0#32

/-- How often slot `x` is named by the first `n` rows, row `r` naming slot `64 * (r % 16) + bin`. -/
def tally (X : ℕ → F .f32) (T : ℕ → BitVec 32) (n x : ℕ) : BitVec 32 := ∑ r ∈ Finset.range n, ind (64 * (r % 16) + bin X T r) x

theorem tally_zero (X : ℕ → F .f32) (T : ℕ → BitVec 32) (x : ℕ) : tally X T 0 x = 0#32 := by simp [tally]

/-- Sixteen more rows. -/
theorem tally_step (X : ℕ → F .f32) (T : ℕ → BitVec 32) (t x : ℕ) :
    tally X T (16 * (t + 1)) x = tally X T (16 * t) x + ∑ l ∈ Finset.range 16, ind (64 * l + bin X T (16 * t + l)) x := by
  unfold tally
  rw [show 16 * (t + 1) = 16 * t + 16 by ring, Finset.sum_range_add]
  refine congrArg₂ (· + ·) rfl ?_
  refine Finset.sum_congr rfl fun l hl => ?_
  have := Finset.mem_range.mp hl
  rw [show (16 * t + l) % 16 = l by omega]

/-- The tally reads only the rows it counts. -/
theorem tally_congr {X X' : ℕ → F .f32} {T T' : ℕ → BitVec 32} {n : ℕ} (hX : ∀ k < 8 * n, X k = X' k) (hT : ∀ k < n, T k = T' k) (x : ℕ) :
    tally X T n x = tally X' T' n x := by
  refine Finset.sum_congr rfl fun r hr => ?_
  have := Finset.mem_range.mp hr
  rw [bin_congr (X' := X') (T' := T') (r' := r) (hT r this) fun j hj => hX _ (by omega)]

/-- Two runs of rows, the first a multiple of sixteen long, are one. -/
theorem tally_append (X : ℕ → F .f32) (T : ℕ → BitVec 32) (B n m x : ℕ) (hn : 16 ∣ n) :
    tally (shX X B) (shT T B) n x + tally (shX X (B + n)) (shT T (B + n)) m x = tally (shX X B) (shT T B) (n + m) x := by
  unfold tally
  rw [Finset.sum_range_add]
  refine congrArg₂ (· + ·) rfl ?_
  refine Finset.sum_congr rfl fun r _ => ?_
  rw [bin_sh, bin_sh, show (n + r) % 16 = r % 16 by omega, Nat.add_assoc]

/-! ## Folding the sixteen lanes' tables -/

/-- Bin `b`, summed over the sixteen lanes' tables. -/
def fold16 (H : ℕ → BitVec 32) (b : ℕ) : BitVec 32 := ∑ q ∈ Finset.range 16, H (64 * q + b)

/-- How often bin `b` is named by the rows from `B` on, `n` of them. -/
def count (X : ℕ → F .f32) (T : ℕ → BitVec 32) (B n b : ℕ) : BitVec 32 := ∑ r ∈ Finset.range n, ind (bin X T (B + r)) b

theorem fold16_add (H H' : ℕ → BitVec 32) (b : ℕ) : fold16 (fun x => H x + H' x) b = fold16 H b + fold16 H' b := Finset.sum_add_distrib

theorem fold16_zero (b : ℕ) : fold16 (fun _ => 0#32) b = 0#32 := by simp [fold16]

/-- Folding a tally gives the count: the lane a row is on no longer matters. -/
theorem fold16_tally (X : ℕ → F .f32) (T : ℕ → BitVec 32) (B n b : ℕ) (hb : b < 64) (hT : ∀ r < n, (T (B + r)).toNat < 8) :
    fold16 (tally (shX X B) (shT T B) n) b = count X T B n b := by
  unfold fold16 tally count
  rw [Finset.sum_comm]
  refine Finset.sum_congr rfl fun r hr => ?_
  have hr := Finset.mem_range.mp hr
  have hlt := bin_lt X T (B + r) (hT r hr)
  rw [bin_sh, Finset.sum_eq_single (r % 16)]
  · unfold ind; congr 1; exact propext ⟨fun h => by omega, fun h => by omega⟩
  · intro q hq hne
    exact if_neg (show ¬ (64 * (r % 16) + bin X T (B + r) = 64 * q + b) by omega)
  · intro h; exact absurd (Finset.mem_range.mpr (Nat.mod_lt r (by decide))) h

/-! ## An indexed store that adds ones -/

/-- Adding one at each of a list of places adds, at every place, the number of times the list names it. -/
theorem foldl_ones {ι : Type} {s : Shape} (p : ι → s.Idx) (step : (s.Idx → BitVec 32) → ι → s.Idx → BitVec 32)
    (hstep : ∀ g k j, step g k j = g j + if ∀ a, (j a).val = (p k a).val then 1#32 else 0#32) (L : List ι) (f : s.Idx → BitVec 32) (j : s.Idx) :
    L.foldl step f j = f j + (L.map fun k => if ∀ a, (j a).val = (p k a).val then 1#32 else 0#32).sum := by
  induction L generalizing f with
  | nil => simp
  | cons k L ih => rw [List.foldl_cons, ih, hstep, List.map_cons, List.sum_cons, add_assoc]

/-- An indexed store that adds one for each of sixteen lanes, lane `l` naming slot `P l`, adds to every slot the number of
    lanes that name it. -/
theorem storeIdx_ones {n : ℕ} (H P : ℕ → BitVec 32) (v : Vec F (Sh 16) .i32) (hv : v = vec1 16 fun _ => 1#32)
    (h : ∀ a x, ((![vec1 16 P] : Fin 1 → IVec (Sh 16) 32) a x).toNat < (Sh n).size a) :
    storeIdx (F := F) (e := .i32) (vec1 n H : Vec F (Sh n) .i32) ![vec1 16 P] v (fun _ => 1#1) true h
      = vec1 n fun x => H x + ∑ l ∈ Finset.range 16, ind (P l).toNat x := by
  subst hv
  funext j
  unfold storeIdx
  refine (foldl_ones (s := Sh n) (fun k : Fin 16 => idxAt ![vec1 16 P] h (Shape.ofLane k)) _ ?_ (List.finRange 16) (vec1 n H) j).trans ?_
  · intro g k j
    rw [if_pos (by rfl)]
    by_cases hj : ∀ a, (j a).val = ((idxAt ![vec1 16 P] h (Shape.ofLane k) : (Sh n).Idx) a).val
    · rw [if_pos hj, if_pos hj]
      refine Eq.trans (if_pos rfl) ?_
      exact congrArg (fun y => g y + 1#32) (funext fun a => Fin.ext (hj a).symm)
    · rw [if_neg hj, if_neg hj]; exact (add_zero (g j)).symm
  · refine congrArg (fun y => H (j 0).val + y) ?_
    rw [Finset.sum_range, Fin.sum_univ_def]
    refine congrArg List.sum ?_
    refine List.map_congr_left fun k _ => ?_
    unfold ind
    have e : ((idxAt ![vec1 16 P] h (Shape.ofLane k) : (Sh n).Idx) 0).val = (P k.val).toNat := rfl
    refine if_congr ⟨fun hj => ?_, fun hj a => ?_⟩ rfl rfl
    · exact e.symm.trans (hj 0).symm
    · have : a = 0 := Subsingleton.elim _ _
      subst this; exact hj.symm.trans e.symm

end Cert.Proof.Hist

end
-- ==== Proof.IdealSteps.lean ====
/- One tile's memory operations as rules over flat vectors: a load or a store of sixteen words of the table or of the
   output row, the gather of sixteen scores, the indexed store that adds ones, and the fetch of a run of scores or of
   targets. Each takes the buffers at vectors written as functions of a natural number and leaves them so. -/
module

public import proofs.«01_k».proof.Defs
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds, the transfers' counters -/

abbrev 𝒱₀ : Variants := Variants.none
abbrev UH : Type := URounds (GSem nD τ sig) ℕ × URounds (GSem nD τ sig) Unit
abbrev UU : Type := UH × Counters

local notation "𝕄" => MT nD τ sig (HIx 1) (Elt F) ℕ UU ℕ

variable [FloatOps F] [Named F] (d : Dev nD) (L : grid0.Coords)

abbrev cV (L : grid0.Coords) : Fin τ.nSC := (L 0).castLE hcore0
abbrev jV (L : grid0.Coords) : Fin τ.nSub := (L 1).castLE hsub0

/-- The weakest precondition of a program of the tile. -/
abbrev WP {β : Type} (p : Prog (TpuEff nD τ sig (Elt F) Λ₀ (.scVector (cV L) (jV L))) β) (Q : β → sProp 𝕄) : sProp 𝕄 :=
  wp frame (wpE (defs₀ (F := F)) 𝒱₀ (V d (cV L) (jV L)) none) Set.univ p Q

/-- A flat memref of the tile's holds the elements `H`. -/
def Holds {n : ℕ} {e : EltTy} (m : Memref sig .scVector .vmem (Sh n) e) (H : ℕ → Elt F e) : sProp 𝕄 :=
  iprop(∃ f, ⌜m.view.read (Elt F) f = vec1 n H⌝ ∗ (m.view.loc (V d (cV L) (jV L)) ↦{fullShare} f))

/-! ## Sixteen words at an offset -/

/-- Sixteen elements of a flat vector read through a unit rectangle. -/
theorem emb_unit {n k : ℕ} (off : Fin 1 → ℕ) (inb : ∀ a, off a + (Sh k).size a ≤ (Sh n).size a) (x : (Sh k).Idx) :
    ((Rect.unit (s := Sh n) off (Sh k).size inb).emb x 0).val = off 0 + (x 0).val := by
  rw [Rect.emb_apply]; show off 0 + 1 * (x 0).val = _; omega

/-- The words `W` stored at `k` elements from `o` on. -/
def put {α : Type} (k : ℕ) (H W : ℕ → α) (o x : ℕ) : α := if o ≤ x ∧ x < o + k then W (x - o) else H x

/-- A rectangle of a flat view reads the elements from its offset on. -/
theorem read_sub {sg : RefSig} {κ : Kind} {sp : Space} {e : EltTy} {n : ℕ} (k : ℕ) (v : View sg κ sp (Sh n) e) (f : v.ty.Contents (Elt F)) (X : ℕ → Elt F e)
    (hf : v.read (Elt F) f = vec1 n X) (off : Fin 1 → ℕ) (inb : ∀ a, off a + (Sh k).size a ≤ (Sh n).size a) :
    (v.slice (Rect.unit (s := Sh n) off (Sh k).size inb)).read (Elt F) f = (vec1 k fun j => X (off 0 + j) : (Sh k).Idx → Elt F e) := by
  funext x
  refine (congrFun hf ((Rect.unit (s := Sh n) off (Sh k).size inb).emb x)).trans ?_
  exact congrArg X (emb_unit off inb x)

/-- A write through a rectangle of a flat view puts its words from the offset on. -/
theorem write_sub {sg : RefSig} {κ : Kind} {sp : Space} {e : EltTy} {n : ℕ} (k : ℕ) (v : View sg κ sp (Sh n) e) (f : v.ty.Contents (Elt F)) (H W : ℕ → Elt F e)
    (hf : v.read (Elt F) f = vec1 n H) (off : Fin 1 → ℕ) (inb : ∀ a, off a + (Sh k).size a ≤ (Sh n).size a) :
    v.read (Elt F) ((v.slice (Rect.unit (s := Sh n) off (Sh k).size inb)).write (Elt F) f (vec1 k W) Finset.univ)
      = vec1 n (put k H W (off 0)) := by
  funext x
  by_cases hx : off 0 ≤ (x 0).val ∧ (x 0).val < off 0 + k
  · have hy : (x 0).val - off 0 < k := by omega
    have ex : x = (Rect.unit (s := Sh n) off (Sh k).size inb).emb (Shape.Idx.ofFin (n := k) ⟨(x 0).val - off 0, hy⟩) := by
      funext a
      have : a = 0 := Subsingleton.elim _ _
      subst this; refine Fin.ext ?_
      rw [emb_unit off inb]
      show _ = off 0 + ((x 0).val - off 0); omega
    refine Eq.trans ?_ (if_pos hx).symm
    conv_lhs => rw [ex]
    exact View.read_slice_write_emb (v := v) _ _ _ (Finset.mem_univ _)
  · refine Eq.trans (View.read_slice_write_of_not_mem (v := v) _ _ _ _ ?_) ((congrFun hf x).trans (if_neg hx).symm)
    intro hmem
    obtain ⟨y, -, rfl⟩ := Finset.mem_map.mp hmem
    rw [emb_unit off inb] at hx
    have := idx_lt (n := k) y
    omega

/-- The whole rectangle of a view reads what the view reads. -/
theorem read_all {sg : RefSig} {κ : Kind} {sp : Space} {e : EltTy} {s : Shape} (v : View sg κ sp s e) (f : v.ty.Contents (Elt F)) :
    (v.slice (Rect.whole s)).read (Elt F) f = v.read (Elt F) f :=
  funext fun x => congrArg (v.read (Elt F) f) (Rect.emb_whole_apply s x)

/-- A write through the whole rectangle of a view is what the view then reads. -/
theorem write_all {sg : RefSig} {κ : Kind} {sp : Space} {e : EltTy} {s : Shape} (v : View sg κ sp s e) (f : v.ty.Contents (Elt F)) (w : s.Idx → Elt F e) :
    v.read (Elt F) ((v.slice (Rect.whole s)).write (Elt F) f w Finset.univ) = w :=
  (read_all v _).symm.trans (View.read_write_univ (v := v.slice (Rect.whole s)) f w)

variable {β : Type} {Q : β → sProp (MT nD τ sig (HIx 1) (Elt F) ℕ UU ℕ)}

/-- A load of `w` elements. -/
theorem wp_loadN {n w : ℕ} {e : EltTy} (m : Memref sig .scVector .vmem (Sh n) e) {off : Fin 1 → ℕ} (inb : ∀ a, off a + (Sh w).size a ≤ (Sh n).size a) (hl)
    (H : ℕ → Elt F e) (k : Vec F (Sh w) e → Prog (TpuEff nD τ sig (Elt F) Λ₀ (.scVector (cV L) (jV L))) β) :
    Holds d L m H ⊢ iprop((Holds d L m H -∗ WP d L (k (vec1 w fun j => H (off 0 + j))) Q)
      -∗ WP d L (Prog.lift (.load m (Rect.unit (s := Sh n) off (Sh w).size inb).toLoadRect hl) >>= k) Q) := by
  rw [Prog.bind_lift]; unfold Holds
  iintro ⟨%f, %hf, Hm⟩ Hk
  rw [← read_sub (F := F) w m.view f H hf off inb]
  iapply (wp_load_rect 𝒱₀ (V d (cV L) (jV L)) none Set.univ (m := m) (r := Rect.unit (s := Sh n) off (Sh w).size inb) (hl := hl) (f := f) (Finset.subset_univ _)) $$ Hm
  iintro Hm
  iapply Hk
  iexists f
  isplitr; · ipureintro; exact hf
  iexact Hm

/-- A store of `w` words. -/
theorem wp_storeN {n w : ℕ} (m : Memref sig .scVector .vmem (Sh n) .i32) {off : Fin 1 → ℕ} (inb : ∀ a, off a + (Sh w).size a ≤ (Sh n).size a) (hx) (hm)
    (H W : ℕ → BitVec 32) (k : PUnit → Prog (TpuEff nD τ sig (Elt F) Λ₀ (.scVector (cV L) (jV L))) β) :
    Holds (F := F) d L m H ⊢ iprop((Holds d L m (put w H W (off 0)) -∗ WP d L (k ⟨⟩) Q)
      -∗ WP d L (Prog.lift (.store m (Rect.unit (s := Sh n) off (Sh w).size inb) (vec1 w W : (Sh w).Idx → BitVec 32) Finset.univ hx hm) >>= k) Q) := by
  rw [Prog.bind_lift]; unfold Holds
  iintro ⟨%f, %hf, Hm⟩ Hk
  iapply (wp_store 𝒱₀ (V d (cV L) (jV L)) none Set.univ (m := m) (r := Rect.unit (s := Sh n) off (Sh w).size inb) (hx := hx) (hm := hm) (f := f) (Finset.subset_univ _)) $$ Hm
  iintro Hm
  iapply Hk
  iexists _
  isplitr; swap; · iexact Hm
  ipureintro; exact write_sub w m.view f H W hf off inb

/-! ## The indexed load and the indexed store -/

/-- A gather of sixteen elements. -/
theorem wp_gather {n : ℕ} {e : EltTy} (m : Memref sig .scVector .vmem (Sh n) e) {P : ℕ → BitVec 32} (h) (hl) (X : ℕ → Elt F e)
    (k : Vec F (Sh 16) e → Prog (TpuEff nD τ sig (Elt F) Λ₀ (.scVector (cV L) (jV L))) β) :
    Holds d L m X ⊢ iprop((Holds d L m X -∗ WP d L (k (vec1 16 fun l => X (P l).toNat)) Q)
      -∗ WP d L (SparseCore.vectorLoadIdx (t := Sh 16) m ![(vec1 16 P : IVec (Sh 16) 32)] h hl >>= k) Q) := by
  unfold Holds
  iintro ⟨%f, %hf, Hm⟩ Hk
  iapply (SparseCore.wp_vectorLoadIdx 𝒱₀ (V d (cV L) (jV L)) none Set.univ (base := m) (f := f) (Finset.subset_univ _)) $$ Hm
  iintro Hm
  have e1 : loadIdx ((m.access (.whole (Sh n))).read (Elt F) f) ![(vec1 16 P : IVec (Sh 16) 32)] h = (vec1 16 fun l => X (P l).toNat) := by
    rw [read_all, hf]; rfl
  rw [e1]
  iapply Hk
  iexists f
  isplitr; · ipureintro; exact hf
  iexact Hm

/-- An indexed store that adds ones. -/
theorem wp_bump {n : ℕ} (m : Memref sig .scVector .vmem (Sh n) .i32) {P : ℕ → BitVec 32} (h) (hs) (H : ℕ → BitVec 32) (v : Vec F (Sh 16) .i32) (hv : v = vec1 16 fun _ => 1#32)
    (k : PUnit → Prog (TpuEff nD τ sig (Elt F) Λ₀ (.scVector (cV L) (jV L))) β) :
    Holds (F := F) d L m H ⊢ iprop((Holds d L m (fun x => H x + ∑ l ∈ Finset.range 16, ind (P l).toNat x) -∗ WP d L (k ⟨⟩) Q)
      -∗ WP d L (SparseCore.vectorStoreIdx m ![(vec1 16 P : IVec (Sh 16) 32)] v (fun _ => 1#1) true h hs >>= k) Q) := by
  unfold Holds
  iintro ⟨%f, %hf, Hm⟩ Hk
  rw [SparseCore.vectorStoreIdx_bind (c := V d (cV L) (jV L))]
  iapply (wp_load_rect 𝒱₀ (V d (cV L) (jV L)) none Set.univ (m := m) (r := Rect.whole (Sh n)) (hl := View.loadsAt_rect hs.loads) (f := f) (Finset.subset_univ _)) $$ Hm
  iintro Hm
  iapply (wp_store 𝒱₀ (V d (cV L) (jV L)) none Set.univ (m := m) (r := Rect.whole (Sh n)) (hx := hs) (f := f) (Finset.subset_univ _)) $$ Hm
  iintro Hm
  iapply Hk
  iexists _
  isplitr; swap; · iexact Hm
  ipureintro
  rw [write_all, read_all, hf]
  exact storeIdx_ones H P v hv h

/-! ## Transfers -/

/-- What the tile owes stays below every semaphore it waits on, and it has waited on none but its own transfers'. -/
def Owing (O : CellTallies nD τ sig (HIx 1)) (W₀ : Waits sig (HIx 1)) : sProp 𝕄 :=
  iprop(Transfers.MayWaits (V d (cV L) (jV L)) (default : HIx 1) O ∗ ∃ W, ⌜∀ p ∈ W, p ∈ W₀ ∨ p.2 = none⌝ ∗ owes (V d (cV L) (jV L)) O W)

/-- A transfer's semaphore, at zero. -/
def Idle (sem : DmaSem sig) : sProp 𝕄 := semVal (((V d (cV L) (jV L)), .dma sem) : GSem nD τ sig) 0

/-- A transfer under way: what its wait delivers, and the rest of its source. -/
def Flying (sem : DmaSem sig) (N : ℕ) (A B : sProp 𝕄) : sProp 𝕄 :=
  iprop(Transfers.Flight countersEmb (V d (cV L) (jV L)) (.dma sem) (default : HIx 1) N A ∗ B)

variable {O : CellTallies nD τ sig (HIx 1)} {W₀ : Waits sig (HIx 1)}

/-- Starting a transfer. -/
theorem wp_start {s : Shape} {e : EltTy} {sp sp' : Space} (src : Memref sig .scVector sp s e) (dst : Memref sig .scVector sp' s e) (sem : DmaSem sig)
    (hsrc) (hdst) (hsem) (hpos : 0 < dst.view.dmaCredit) {q : PosShare TreeShare} (Sd) (hSd : dst.view.set ⊆ Sd)
    (fs : Buf (Elt F) (src.view.loc (V d (cV L) (jV L)))) (fd : Buf (Elt F) (dst.view.loc (V d (cV L) (jV L))))
    (k : PUnit → Prog (TpuEff nD τ sig (Elt F) Λ₀ (.scVector (cV L) (jV L))) β) :
    iprop((src.view.loc (V d (cV L) (jV L)) ↦{q} fs) ∗ (dst.view.loc (V d (cV L) (jV L)) ↦[Sd]{fullShare} fd) ∗ Idle (F := F) d L sem)
      ⊢ iprop((Flying d L sem dst.view.dmaCredit
            iprop((dst.view.loc (V d (cV L) (jV L)) ↦[Sd]{fullShare} dst.view.write (Elt F) fd (src.view.read (Elt F) fs) Finset.univ)
              ∗ (src.view.loc (V d (cV L) (jV L)) ↦[src.view.set]{q} fs))
            iprop(src.view.loc (V d (cV L) (jV L)) ↦[Finset.univ \ src.view.set]{q} fs) -∗ WP d L (k ⟨⟩) Q)
        -∗ WP d L (Prog.lift (.enqueueDma src (.here dst) (.dma sem) hsrc hdst hsem) >>= k) Q) := by
  rw [Prog.bind_lift]; unfold Flying Idle
  iintro ⟨Hs, Hd, Hv⟩ Hk
  ihave Hs' := (pointsTo_split_subset (q := q) (f := fs) (S := Finset.univ) (Finset.subset_univ src.view.set)).1 $$ Hs
  icases Hs' with ⟨Hs, Hr⟩
  iapply (Transfers.wp_dmaLocal countersEmb 𝒱₀ (V d (cV L) (jV L)) none (src := src) (via := .same) (dst := dst) (sm := .dma sem) (hsrc := hsrc) (hdst := hdst) (hsem := hsem)
    (default : HIx 1) dst.view.dmaCredit rfl hpos (fs := fs) (fd := fd) (q := q) hSd) $$ [Hs Hd Hv]
  · isplitl [Hs]; · iexact Hs
    isplitl [Hd]; · iexact Hd
    iexact Hv
  iintro Hfl
  iapply Hk
  isplitl [Hfl]; · iexact Hfl
  iexact Hr

/-- Waiting for a transfer. -/
theorem wp_wait {s s' : Shape} {e e' : EltTy} {sp sp' : Space} (src : Memref sig .scVector sp s' e') (dst : Memref sig .scVector sp' s e) (sem : DmaSem sig)
    (hsrc) (hdst) (A B : sProp 𝕄) (k : PUnit → Prog (TpuEff nD τ sig (Elt F) Λ₀ (.scVector (cV L) (jV L))) β) :
    iprop(Flying d L sem dst.view.dmaCredit A B ∗ Owing d L O W₀)
      ⊢ iprop((iprop(A ∗ B ∗ Idle d L sem ∗ Owing d L O W₀) -∗ WP d L (k ⟨⟩) Q)
        -∗ WP d L (Prog.lift (.waitDma2 sem src dst hsrc hdst) >>= k) Q) := by
  rw [Prog.bind_lift]; unfold Flying Idle Owing
  iintro ⟨⟨Hfl, HB⟩, #Hmw, %W, %hW, HO⟩ Hk
  iapply (Transfers.wp_waitLocalO countersEmb 𝒱₀ (V d (cV L) (jV L)) none (default : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨HA, Hv, HO⟩
  iapply Hk
  isplitl [HA]; · iexact HA
  isplitl [HB]; · iexact HB
  isplitl [Hv]; · iexact Hv
  isplitr; · iexact Hmw
  iexists _
  isplitr; swap; · iexact HO
  ipureintro; intro p hp
  rcases Finset.mem_insert.mp hp with hp | hp; · exact .inr (hp ▸ rfl)
  exact hW p hp

/-- A run of `n` elements of a flat array, from `off` on. -/
abbrev run {N : ℕ} {e : EltTy} (n : ℕ) (a : Memref sig .scVector .hbm (Sh N) e) (off : Fin 1 → ℕ) (inb : ∀ x, off x + (Sh n).size x ≤ (Sh N).size x) :
    Memref sig .scVector .hbm (Sh n) e := a.slice (Rect.unit (s := Sh N) off (Sh n).size inb) (fun _ => rfl)

/-- A share of a flat array at contents `fs`. -/
abbrev Source {N : ℕ} {e : EltTy} (a : Memref sig .scVector .hbm (Sh N) e) (q : PosShare TreeShare) (fs : Buf (Elt F) (a.view.loc (V d (cV L) (jV L)))) : sProp 𝕄 :=
  a.view.loc (V d (cV L) (jV L)) ↦{q} fs

/-- A run of an array on its way into all of a memref. -/
def Coming {N n : ℕ} {e : EltTy} (a : Memref sig .scVector .hbm (Sh N) e) (q : PosShare TreeShare) (fs : Buf (Elt F) (a.view.loc (V d (cV L) (jV L))))
    (off : Fin 1 → ℕ) (inb : ∀ x, off x + (Sh n).size x ≤ (Sh N).size x) (m : Memref sig .scVector .vmem (Sh n) e) (sem : DmaSem sig) : sProp 𝕄 :=
  iprop(∃ fd, Flying d L sem m.view.dmaCredit
    iprop((m.view.loc (V d (cV L) (jV L)) ↦{fullShare} m.view.write (Elt F) fd ((run n a off inb).view.read (Elt F) fs) Finset.univ)
      ∗ (a.view.loc (V d (cV L) (jV L)) ↦[(run n a off inb).view.set]{q} fs))
    iprop(a.view.loc (V d (cV L) (jV L)) ↦[Finset.univ \ (run n a off inb).view.set]{q} fs))

section Fetch
variable {N n w : ℕ} {e : EltTy} (a : Memref sig .scVector .hbm (Sh N) e) (q : PosShare TreeShare) (fs : Buf (Elt F) (a.view.loc (V d (cV L) (jV L))))

/-- Starting a fetch into all of a memref. -/
theorem wp_startN (off : Fin 1 → ℕ) (inb : ∀ x, off x + (Sh n).size x ≤ (Sh N).size x) (m : Memref sig .scVector .vmem (Sh n) e) (sem : DmaSem sig)
    (hsrc) (hdst) (hsem) (hn : 0 < m.view.dmaCredit) (X₀ : ℕ → Elt F e) (k : PUnit → Prog (TpuEff nD τ sig (Elt F) Λ₀ (.scVector (cV L) (jV L))) β) :
    iprop(Source d L a q fs ∗ Holds d L m X₀ ∗ Idle d L sem) ⊢ iprop((Coming d L a q fs off inb m sem -∗ WP d L (k ⟨⟩) Q)
      -∗ WP d L (Prog.lift (.enqueueDma (run n a off inb) (.here m) (.dma sem) hsrc hdst hsem) >>= k) Q) := by
  unfold Holds
  iintro ⟨Hs, ⟨%fd, -, Hd⟩, Hv⟩ Hk
  iapply (wp_start d L (run n a off inb) m sem hsrc hdst hsem hn (q := q) Finset.univ (Finset.subset_univ _) fs fd k) $$ [Hs Hd Hv]
  · isplitl [Hs]; · iexact Hs
    isplitl [Hd]; · iexact Hd
    iexact Hv
  iintro H
  iapply Hk
  unfold Coming
  iexists fd; iexact H

/-- Waiting for a fetch into all of a memref. -/
theorem wp_waitN (off : Fin 1 → ℕ) (inb : ∀ x, off x + (Sh n).size x ≤ (Sh N).size x) (m : Memref sig .scVector .vmem (Sh n) e) (sem : DmaSem sig)
    (hsrc) (hdst) (X : ℕ → Elt F e) (hX : a.view.read (Elt F) fs = vec1 N X) (k : PUnit → Prog (TpuEff nD τ sig (Elt F) Λ₀ (.scVector (cV L) (jV L))) β) :
    iprop(Coming d L a q fs off inb m sem ∗ Owing d L O W₀)
      ⊢ iprop((iprop(Source d L a q fs ∗ Holds d L m (fun j => X (off 0 + j)) ∗ Idle d L sem ∗ Owing d L O W₀) -∗ WP d L (k ⟨⟩) Q)
      -∗ WP d L (Prog.lift (.waitDma2 sem (run n a off inb) m hsrc hdst) >>= k) Q) := by
  unfold Coming
  iintro ⟨⟨%fd, Hfl⟩, HO⟩ Hk
  iapply (wp_wait d L (run n a off inb) m sem hsrc hdst _ _ k) $$ [Hfl HO]
  · isplitl [Hfl] <;> iassumption
  iintro ⟨⟨Hd, Hs⟩, Hr, Hv, HO⟩
  iapply Hk
  isplitl [Hs Hr]
  · iapply (pointsTo_split_subset (q := q) (f := fs) (S := Finset.univ) (Finset.subset_univ (run n a off inb).view.set)).2
    isplitl [Hs] <;> iassumption
  isplitl [Hd]
  · unfold Holds
    iexists _
    isplitr; swap; · iexact Hd
    ipureintro
    rw [View.read_write_univ]
    exact read_sub n a.view fs X hX off inb
  isplitl [Hv] <;> iassumption

/-- A fetch into all of a memref, and its wait. -/
theorem wp_fetch (off : Fin 1 → ℕ) (inb : ∀ x, off x + (Sh n).size x ≤ (Sh N).size x) (m : Memref sig .scVector .vmem (Sh n) e) (sem : DmaSem sig)
    (hsrc) (hdst) (hsem) (hsrc') (hdst') (hn : 0 < m.view.dmaCredit) (X₀ X : ℕ → Elt F e) (hX : a.view.read (Elt F) fs = vec1 N X)
    (k : PUnit → Prog (TpuEff nD τ sig (Elt F) Λ₀ (.scVector (cV L) (jV L))) β) :
    iprop(Source d L a q fs ∗ Holds d L m X₀ ∗ Idle d L sem ∗ Owing d L O W₀)
      ⊢ iprop((iprop(Source d L a q fs ∗ Holds d L m (fun j => X (off 0 + j)) ∗ Idle d L sem ∗ Owing d L O W₀) -∗ WP d L (k ⟨⟩) Q)
      -∗ WP d L (Prog.lift (.enqueueDma (run n a off inb) (.here m) (.dma sem) hsrc hdst hsem)
          >>= fun _ => Prog.lift (.waitDma2 sem (run n a off inb) m hsrc' hdst') >>= k) Q) := by
  iintro ⟨Hs, Hd, Hv, HO⟩ Hk
  iapply (wp_startN d L a q fs off inb m sem hsrc hdst hsem hn X₀) $$ [Hs Hd Hv]
  · isplitl [Hs]; · iexact Hs
    isplitl [Hd] <;> iassumption
  iintro H
  iapply (wp_waitN d L a q fs off inb m sem hsrc' hdst' X hX) $$ [H HO]
  · isplitl [H] <;> iassumption
  iexact Hk

/-- A fetch into the `w` elements of a memref from `off'` on, and its wait. -/
theorem wp_fetchPart (off : Fin 1 → ℕ) (inb : ∀ x, off x + (Sh w).size x ≤ (Sh N).size x) (m : Memref sig .scVector .vmem (Sh n) e)
    (off' : Fin 1 → ℕ) (inb' : ∀ x, off' x + (Sh w).size x ≤ (Sh n).size x) (sem : DmaSem sig) (hsrc) (hdst) (hsem) (hsrc') (hdst')
    (hn : 0 < (m.slice (Rect.unit (s := Sh n) off' (Sh w).size inb') (fun _ => rfl)).view.dmaCredit) (X₀ X : ℕ → Elt F e) (hX : a.view.read (Elt F) fs = vec1 N X)
    (k : PUnit → Prog (TpuEff nD τ sig (Elt F) Λ₀ (.scVector (cV L) (jV L))) β) :
    iprop(Source d L a q fs ∗ Holds d L m X₀ ∗ Idle d L sem ∗ Owing d L O W₀)
      ⊢ iprop((iprop(Source d L a q fs ∗ Holds d L m (put w X₀ (fun j => X (off 0 + j)) (off' 0)) ∗ Idle d L sem ∗ Owing d L O W₀) -∗ WP d L (k ⟨⟩) Q)
      -∗ WP d L (Prog.lift (.enqueueDma (run w a off inb) (.here (m.slice (Rect.unit (s := Sh n) off' (Sh w).size inb') (fun _ => rfl))) (.dma sem) hsrc hdst hsem)
          >>= fun _ => Prog.lift (.waitDma2 sem (run w a off inb) (m.slice (Rect.unit (s := Sh n) off' (Sh w).size inb') (fun _ => rfl)) hsrc' hdst') >>= k) Q) := by
  unfold Holds
  iintro ⟨Hs, ⟨%fd, %hfd, Hd⟩, Hv, HO⟩ Hk
  iapply (wp_start d L (run w a off inb) (m.slice (Rect.unit (s := Sh n) off' (Sh w).size inb') (fun _ => rfl)) sem hsrc hdst hsem hn (q := q)
    Finset.univ (Finset.subset_univ _) fs fd _) $$ [Hs Hd Hv]
  · isplitl [Hs]; · iexact Hs
    isplitl [Hd]; · iexact Hd
    iexact Hv
  iintro Hfl
  iapply (wp_wait d L (run w a off inb) (m.slice (Rect.unit (s := Sh n) off' (Sh w).size inb') (fun _ => rfl)) sem hsrc' hdst' _ _ k) $$ [Hfl HO]
  · isplitl [Hfl]; · iexact Hfl
    iexact HO
  iintro ⟨⟨Hd, Hs⟩, Hr, Hv, HO⟩
  iapply Hk
  isplitl [Hs Hr]
  · iapply (pointsTo_split_subset (q := q) (f := fs) (S := Finset.univ) (Finset.subset_univ (run w a off inb).view.set)).2
    isplitl [Hs] <;> iassumption
  isplitl [Hd]
  · iexists _
    isplitr; swap; · iexact Hd
    ipureintro
    rw [read_sub w a.view fs X hX off inb]
    exact write_sub w m.view fd X₀ _ hfd off' inb'
  isplitl [Hv] <;> iassumption

end Fetch

end Cert.Proof.Ideal

end
-- ==== Proof.IdealTrip.lean ====
/- One trip of a tile's loop over sixteen rows: the eight scores of each row are gathered, the largest found, and the
   table's slot of each row's bin is bumped. -/
module

public import proofs.«01_k».proof.Proof.IdealSteps

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (d : Dev nD) (L : grid0.Coords)
variable {β : Type} {Q : β → sProp (MT nD τ sig (HIx 1) (Elt F) ℕ UU ℕ)}

/-! ## The kernel's operands -/

/-- The kernel's buffers and semaphores. -/
structure Args where
  arg2 : Memref sig .scVector .hbm S8000000 .f32
  h2 : arg2.IsWhole
  arg3 : Memref sig .scVector .hbm S1000000 .i32
  h3 : arg3.IsWhole
  arg4 : Memref sig .scVector .hbm S32x64 .i32
  h4 : arg4.IsWhole
  arg5 : Memref sig .scVector .vmem S32768 .f32
  h5 : arg5.IsWhole
  arg6 : Memref sig .scVector .vmem S4096 .i32
  h6 : arg6.IsWhole
  arg7 : Memref sig .scVector .vmem S1024 .i32
  h7 : arg7.IsWhole
  arg8 : Memref sig .scVector .vmem S64 .i32
  h8 : arg8.IsWhole
  r : Fin 19 → DmaSems sig S_

/-- A function of the kernel's operands at them. -/
abbrev Args.on {γ : Type 1} (a : Args) (f : (arg2 : Memref sig .scVector .hbm S8000000 .f32) → arg2.IsWhole → (arg3 : Memref sig .scVector .hbm S1000000 .i32) → arg3.IsWhole
    → (arg4 : Memref sig .scVector .hbm S32x64 .i32) → arg4.IsWhole → (arg5 : Memref sig .scVector .vmem S32768 .f32) → arg5.IsWhole
    → (arg6 : Memref sig .scVector .vmem S4096 .i32) → arg6.IsWhole → (arg7 : Memref sig .scVector .vmem S1024 .i32) → arg7.IsWhole
    → (arg8 : Memref sig .scVector .vmem S64 .i32) → arg8.IsWhole
    → DmaSems sig S_ → DmaSems sig S_ → DmaSems sig S_ → DmaSems sig S_ → DmaSems sig S_ → DmaSems sig S_ → DmaSems sig S_ → DmaSems sig S_ → DmaSems sig S_ → DmaSems sig S_
    → DmaSems sig S_ → DmaSems sig S_ → DmaSems sig S_ → DmaSems sig S_ → DmaSems sig S_ → DmaSems sig S_ → DmaSems sig S_ → DmaSems sig S_ → DmaSems sig S_ → γ) : γ :=
  f a.arg2 a.h2 a.arg3 a.h3 a.arg4 a.h4 a.arg5 a.h5 a.arg6 a.h6 a.arg7 a.h7 a.arg8 a.h8
    (a.r 0) (a.r 1) (a.r 2) (a.r 3) (a.r 4) (a.r 5) (a.r 6) (a.r 7) (a.r 8) (a.r 9) (a.r 10) (a.r 11) (a.r 12) (a.r 13) (a.r 14) (a.r 15) (a.r 16) (a.r 17) (a.r 18)

/-- Sixty-four times the lane. -/
abbrev I64 : IVec S16 32 := vec1 16 fun l => BitVec.ofNat 32 l * 64#32
/-- Eight times the lane. -/
abbrev I8 : IVec S16 32 := vec1 16 fun l => BitVec.ofNat 32 l * 8#32
/-- The same number on every lane. -/
abbrev Ic (c : BitVec 32) : IVec S16 32 := vec1 16 fun _ => c

/-! ## Steps at the offsets' values -/

/-- A load at a known offset. -/
theorem wp_loadAt {n w : ℕ} {e : EltTy} (m : Memref sig .scVector .vmem (Sh n) e) {off : Fin 1 → ℕ} (inb : ∀ a, off a + (Sh w).size a ≤ (Sh n).size a) (hl)
    (H : ℕ → Elt F e) (o : ℕ) (ho : off 0 = o) (k : Vec F (Sh w) e → Prog (TpuEff nD τ sig (Elt F) Λ₀ (.scVector (cV L) (jV L))) β) :
    Holds d L m H ⊢ iprop((Holds d L m H -∗ WP d L (k (vec1 w fun j => H (o + j))) Q)
      -∗ WP d L (Prog.lift (.load m (Rect.unit (s := Sh n) off (Sh w).size inb).toLoadRect hl) >>= k) Q) := by
  subst ho; exact wp_loadN d L m inb hl H k

/-- A gather after the check that its indices are in range. -/
theorem wp_look {n : ℕ} {e : EltTy} (m : Memref sig .scVector .vmem (Sh n) e) (P : ℕ → BitVec 32) (p : ℕ → ℕ) (hp : ∀ l < 16, (P l).toNat = p l ∧ p l < n)
    {C : Prop} (dec : Decidable C) (hC : (∀ a x, ((![(vec1 16 P : IVec (Sh 16) 32)] : Fin 1 → IVec (Sh 16) 32) a x).toNat < (Sh n).size a) → C)
    (h : C → ∀ a x, ((![(vec1 16 P : IVec (Sh 16) 32)] : Fin 1 → IVec (Sh 16) 32) a x).toNat < (Sh n).size a) (hl) (X : ℕ → Elt F e)
    (k : Vec F (Sh 16) e → Prog (TpuEff nD τ sig (Elt F) Λ₀ (.scVector (cV L) (jV L))) β) :
    Holds d L m X ⊢ iprop((Holds d L m X -∗ WP d L (k (vec1 16 fun l => X (p l))) Q)
      -∗ WP d L (Prog.lift (.assume C dec) >>= fun hw => SparseCore.vectorLoadIdx (t := Sh 16) m ![(vec1 16 P : IVec (Sh 16) 32)] (h hw.down) hl >>= k) Q) := by
  have hc : C := hC fun a x => by
    have : a = 0 := Subsingleton.elim _ _
    subst this
    show (P (x 0).val).toNat < n
    have := hp _ (idx_lt x); omega
  rw [Prog.bind_lift]
  iintro H HK
  iapply (wp_assume 𝒱₀ (V d (cV L) (jV L)) none Set.univ hc)
  iapply (wp_gather d L m (h hc) hl X k) $$ H
  rw [vec1_congr (H := fun l => X (P l).toNat) (H' := fun l => X (p l)) fun l hl => by rw [(hp l hl).1]]
  iexact HK

/-- A bump after the check that its slots are in range. -/
theorem wp_mark {n : ℕ} (m : Memref sig .scVector .vmem (Sh n) .i32) (P : ℕ → BitVec 32) (p : ℕ → ℕ) (hp : ∀ l < 16, (P l).toNat = p l ∧ p l < n)
    {C : Prop} (dec : Decidable C) (hC : (∀ a x, ((![(vec1 16 P : IVec (Sh 16) 32)] : Fin 1 → IVec (Sh 16) 32) a x).toNat < (Sh n).size a) → C)
    (h : C → ∀ a x, ((![(vec1 16 P : IVec (Sh 16) 32)] : Fin 1 → IVec (Sh 16) 32) a x).toNat < (Sh n).size a) (hs) (H : ℕ → BitVec 32)
    (k : PUnit → Prog (TpuEff nD τ sig (Elt F) Λ₀ (.scVector (cV L) (jV L))) β) :
    Holds (F := F) d L m H ⊢ iprop((Holds d L m (fun x => H x + ∑ l ∈ Finset.range 16, ind (p l) x) -∗ WP d L (k ⟨⟩) Q)
      -∗ WP d L (Prog.lift (.assume C dec) >>= fun hw => SparseCore.vectorStoreIdx m ![(vec1 16 P : IVec (Sh 16) 32)] (Ic 1#32 : Vec F S16 .i32) (fun _ => 1#1) true (h hw.down) hs >>= k) Q) := by
  have hc : C := hC fun a x => by
    have : a = 0 := Subsingleton.elim _ _
    subst this
    show (P (x 0).val).toNat < n
    have := hp _ (idx_lt x); omega
  have e : (fun x => H x + ∑ l ∈ Finset.range 16, ind (P l).toNat x) = fun x => H x + ∑ l ∈ Finset.range 16, ind (p l) x := by
    funext x
    refine congrArg (fun z => H x + z) (Finset.sum_congr rfl fun l hl => ?_)
    rw [(hp l (Finset.mem_range.mp hl)).1]
  rw [Prog.bind_lift]
  iintro A HK
  iapply (wp_assume 𝒱₀ (V d (cV L) (jV L)) none Set.univ hc)
  iapply (wp_bump d L m (h hc) hs H (Ic 1#32) rfl k) $$ A
  rw [e]
  iexact HK

/-! ## The indices -/

/-- The first score's index on each lane at trip `t`, and the `j`th's. -/
def look (t : ℕ) (j : BitVec 32) (l : ℕ) : BitVec 32 := Scf.iv 0#32 1#32 t * 16#32 * 8#32 + BitVec.ofNat 32 l * 8#32 + j

theorem look_toNat (t j l : ℕ) (ht : t < 256) (hj : j < 8) (hl : l < 16) :
    (look t (BitVec.ofNat 32 j) l).toNat = 8 * (16 * t + l) + j ∧ 8 * (16 * t + l) + j < 32768 := by
  refine ⟨?_, by omega⟩
  unfold look Scf.iv
  simp only [BitVec.toNat_add, BitVec.toNat_mul, BitVec.toNat_ofNat]
  omega

/-- The slot a row's lane and bin name. -/
theorem slot_toNat (X : ℕ → F .f32) (T : ℕ → BitVec 32) (r l : ℕ) (hT : (T r).toNat < 8) (hl : l < 16) :
    (T r * 8#32 + (pred8 fun j => X (8 * r + j)) + BitVec.ofNat 32 l * 64#32).toNat = 64 * l + bin X T r ∧ 64 * l + bin X T r < 1024 := by
  have hb := bin_lt X T r hT
  have e : (T r * 8#32 + (pred8 fun j => X (8 * r + j))).toNat = bin X T r := rfl
  refine ⟨?_, by omega⟩
  rw [BitVec.toNat_add, e, BitVec.toNat_mul, BitVec.toNat_ofNat, BitVec.toNat_ofNat]
  omega

/-- The slots' vector. -/
theorem pay194_eq (y : ℕ → ℕ → F .f32) (T' : ℕ → BitVec 32) :
    k0_pay194 I64 (k0_pay11 (vec1 16 (y 0)) (vec1 16 (y 1))) (k0_pay12 (Ic 0#32) (Ic 1#32) (vec1 16 (y 0)) (vec1 16 (y 1)))
      (k0_pay14 (vec1 16 (y 2)) (vec1 16 (y 3))) (k0_pay15 (Ic 2#32) (Ic 3#32) (vec1 16 (y 2)) (vec1 16 (y 3)))
      (k0_pay17 (vec1 16 (y 4)) (vec1 16 (y 5))) (k0_pay18 (Ic 4#32) (Ic 5#32) (vec1 16 (y 4)) (vec1 16 (y 5)))
      (k0_pay20 (vec1 16 (y 6)) (vec1 16 (y 7))) (k0_pay21 (Ic 6#32) (Ic 7#32) (vec1 16 (y 6)) (vec1 16 (y 7)))
      (k0_pay22 (vec1 16 (y 0)) (vec1 16 (y 1)) (vec1 16 (y 2)) (vec1 16 (y 3))) (vec1 16 T')
    = vec1 16 fun l => T' l * 8#32 + (pred8 fun j => y j l) + BitVec.ofNat 32 l * 64#32 := rfl

/-! ## The trip -/

variable (a : Args)

/-- The eight gathers and the first round of the tournament. -/
theorem wp_scores (t : Fin k0_t1_loop.trips) (ht : t.val < 256) (X : ℕ → F .f32)
    (k : _ → Prog (TpuEff nD τ sig (Elt F) Λ₀ (.scVector (cV L) (jV L))) β) (y : ℕ → ℕ → F .f32) (hy : y = fun j l => X (8 * (16 * t.val + l) + j)) :
    Holds (F := F) d L a.arg5 X ⊢ iprop((Holds (F := F) d L a.arg5 X -∗ WP d L (k ⟨Scf.iv 0#32 1#32 t.val * 16#32,
        k0_pay11 (vec1 16 (y 0)) (vec1 16 (y 1)), k0_pay12 (Ic 0#32) (Ic 1#32) (vec1 16 (y 0)) (vec1 16 (y 1)),
        k0_pay14 (vec1 16 (y 2)) (vec1 16 (y 3)), k0_pay15 (Ic 2#32) (Ic 3#32) (vec1 16 (y 2)) (vec1 16 (y 3)),
        k0_pay17 (vec1 16 (y 4)) (vec1 16 (y 5)), k0_pay18 (Ic 4#32) (Ic 5#32) (vec1 16 (y 4)) (vec1 16 (y 5)),
        k0_pay20 (vec1 16 (y 6)) (vec1 16 (y 7)), k0_pay21 (Ic 6#32) (Ic 7#32) (vec1 16 (y 6)) (vec1 16 (y 7)),
        k0_pay22 (vec1 16 (y 0)) (vec1 16 (y 1)) (vec1 16 (y 2)) (vec1 16 (y 3))⟩) Q)
      -∗ WP d L (a.on (k0_part1 (F := F) L) I8 (Ic 0#32) (Ic 1#32) (Ic 2#32) (Ic 3#32) (Ic 4#32) (Ic 5#32) (Ic 6#32) (Ic 7#32) 0#32 1#32 t >>= k) Q) := by
  subst hy
  simp only [Args.on, k0_part1_eq_skeleton]
  unfold k0_part1_skel
  simp only [Prog.bind_assoc]
  iintro A HK
  iapply (wp_look d L a.arg5 (look t.val 0#32) _ (fun l hl => look_toNat t.val 0 l ht (by omega) hl) _ (fun h => h) _ _ X) $$ A
  iintro A
  iapply (wp_look d L a.arg5 (look t.val 1#32) _ (fun l hl => look_toNat t.val 1 l ht (by omega) hl) _ (fun h => h) _ _ X) $$ A
  iintro A
  iapply (wp_look d L a.arg5 (look t.val 2#32) _ (fun l hl => look_toNat t.val 2 l ht (by omega) hl) _ (fun h => h) _ _ X) $$ A
  iintro A
  iapply (wp_look d L a.arg5 (look t.val 3#32) _ (fun l hl => look_toNat t.val 3 l ht (by omega) hl) _ (fun h => h) _ _ X) $$ A
  iintro A
  iapply (wp_look d L a.arg5 (look t.val 4#32) _ (fun l hl => look_toNat t.val 4 l ht (by omega) hl) _ (fun h => h) _ _ X) $$ A
  iintro A
  iapply (wp_look d L a.arg5 (look t.val 5#32) _ (fun l hl => look_toNat t.val 5 l ht (by omega) hl) _ (fun h => h) _ _ X) $$ A
  iintro A
  iapply (wp_look d L a.arg5 (look t.val 6#32) _ (fun l hl => look_toNat t.val 6 l ht (by omega) hl) _ (fun h => h) _ _ X) $$ A
  iintro A
  iapply (wp_look d L a.arg5 (look t.val 7#32) _ (fun l hl => look_toNat t.val 7 l ht (by omega) hl) _ (fun h => h) _ _ X) $$ A
  iintro A
  iapply HK $$ A

/-- A trip of the loop, from the scores `X`, the targets `T` and the table `H`. -/
theorem wp_trip (t : Fin k0_t1_loop.trips) (ht : t.val < 256) (X : ℕ → F .f32) (T H : ℕ → BitVec 32) (hT : ∀ l < 16, (T (16 * t.val + l)).toNat < 8)
    (v81 acc : BitVec 32) (H' : ℕ → BitVec 32) (hH : H' = fun x => H x + ∑ l ∈ Finset.range 16, ind (64 * l + bin X T (16 * t.val + l)) x) :
    iprop(Holds (F := F) d L a.arg5 X ∗ Holds (F := F) d L a.arg6 T ∗ Holds (F := F) d L a.arg7 H)
      ⊢ WP d L (a.on (k0_t1_body (F := F) L) I64 I8 (Ic 0#32) (Ic 1#32) (Ic 2#32) (Ic 3#32) (Ic 4#32) (Ic 5#32) (Ic 6#32) (Ic 7#32) (Ic 1#32) v81 t acc)
        fun _ => iprop(Holds (F := F) d L a.arg5 X ∗ Holds (F := F) d L a.arg6 T ∗ Holds (F := F) d L a.arg7 H') := by
  subst hH
  unfold Args.on k0_t1_body
  iintro ⟨A, B, C⟩
  iapply (wp_scores d L a t ht X _ _ rfl) $$ A
  iintro A
  iapply (wp_loadAt d L a.arg6 (k0_off3_inb t) _ T (16 * t.val) (by rw [k0_off3_eq]; rfl)) $$ B
  iintro B
  iapply (wp_mark d L a.arg7 _ (fun l => 64 * l + bin X T (16 * t.val + l)) (fun l hl => slot_toNat X T (16 * t.val + l) l (hT l hl) hl) _ (fun h => h) _ _ H) $$ C
  iintro C
  iapply (le_wp_ret frame (wpE (defs₀ (F := F)) 𝒱₀ (V d (cV L) (jV L)) none) Set.univ)
  isplitl [A]; · iexact A
  isplitl [B]; · iexact B
  iexact C

/-! ## The loop -/

/-- A loop of `N` trips whose body is the trip's tallies its `16 * N` rows. -/
theorem wp_rows (ub : BitVec 32) (N : ℕ) (hN : Scf.trips 0#32 ub 1#32 = N) (hle : N ≤ 256) (hok) (init v81 : BitVec 32)
    (body : Fin (Scf.trips 0#32 ub 1#32) → BitVec 32 → Prog (TpuEff nD τ sig (Elt F) Λ₀ (.scVector (cV L) (jV L))) (BitVec 32))
    (hbody : ∀ t (t' : Fin k0_t1_loop.trips) acc, t.val = t'.val →
      body t acc = a.on (k0_t1_body (F := F) L) I64 I8 (Ic 0#32) (Ic 1#32) (Ic 2#32) (Ic 3#32) (Ic 4#32) (Ic 5#32) (Ic 6#32) (Ic 7#32) (Ic 1#32) v81 t' acc)
    (X : ℕ → F .f32) (T H : ℕ → BitVec 32) (hT : ∀ r < 16 * N, (T r).toNat < 8)
    (k : BitVec 32 → Prog (TpuEff nD τ sig (Elt F) Λ₀ (.scVector (cV L) (jV L))) β) :
    iprop(Holds (F := F) d L a.arg5 X ∗ Holds (F := F) d L a.arg6 T ∗ Holds (F := F) d L a.arg7 H)
      ⊢ iprop((∀ acc, iprop(Holds (F := F) d L a.arg5 X ∗ Holds (F := F) d L a.arg6 T ∗ Holds (F := F) d L a.arg7 fun x => H x + tally X T (16 * N) x) -∗ WP d L (k acc) Q)
        -∗ WP d L (Scf.for 0#32 ub 1#32 hok init body >>= k) Q) := by
  have h256 : k0_t1_loop.trips = 256 := by decide
  subst hN
  have key := Scf.wp_for_bind frame (wpE (defs₀ (F := F)) 𝒱₀ (V d (cV L) (jV L)) none) Set.univ 0#32 ub 1#32 hok init body
    (fun t _ => iprop(Holds (F := F) d L a.arg5 X ∗ Holds (F := F) d L a.arg6 T ∗ Holds (F := F) d L a.arg7 fun x => H x + tally X T (16 * t) x))
    (fun t acc => by
      have ht : t.val < Scf.trips 0#32 ub 1#32 := t.isLt
      have ht' : t.val < k0_t1_loop.trips := by omega
      rw [hbody t ⟨t.val, ht'⟩ acc rfl]
      exact wp_trip d L a ⟨t.val, ht'⟩ (by omega) X T (fun x => H x + tally X T (16 * t.val) x)
        (fun l hl => hT _ (by show 16 * t.val + l < _; omega)) v81 acc _ (by funext x; rw [tally_step, add_assoc]))
    (kk := k) (Q := Q)
  have e0 : (fun x => H x + tally X T (16 * 0) x) = H := by
    funext x; rw [Nat.mul_zero, tally_zero]; exact add_zero _
  rw [e0] at key
  exact key

end Cert.Proof.Ideal

end
-- ==== Proof.IdealTile.lean ====
/- One tile of the kernel, part by part: the table zeroed, the tile's own rows tallied a chunk at a time, the sixteen
   rows of the tail on the first four tiles, the table folded over its lanes and the output row sent. -/
module

public import proofs.«01_k».proof.Proof.IdealTrip

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (d : Dev nD) (L : grid0.Coords)
variable {β : Type} {Q : β → sProp (MT nD τ sig (HIx 1) (Elt F) ℕ UU ℕ)}

/-! ## The operands' vectors -/

theorem pay182_eq : k0_pay182 = I64 := by
  funext x
  show BitVec.ofNat 32 (0 * 16 + (x 0).val) * 64#32 = BitVec.ofNat 32 (x 0).val * 64#32
  rw [Nat.zero_mul, Nat.zero_add]

theorem pay183_eq : k0_pay183 = I8 := by
  funext x
  show BitVec.ofNat 32 (0 * 16 + (x 0).val) * 8#32 = BitVec.ofNat 32 (x 0).val * 8#32
  rw [Nat.zero_mul, Nat.zero_add]

/-- The same elements, another function. -/
theorem Holds_congr {n : ℕ} {e : EltTy} (m : Memref sig .scVector .vmem (Sh n) e) {H H' : ℕ → Elt F e} (h : ∀ k < n, H k = H' k) :
    Holds d L m H ⊢ Holds d L m H' := by
  unfold Holds; rw [vec1_congr h]

/-! ## Zeroing the table -/

/-- The table zeroed below `o`. -/
def zeroed (H : ℕ → BitVec 32) (o x : ℕ) : BitVec 32 := if x < o then 0#32 else H x

theorem put_zeroed (H : ℕ → BitVec 32) (o : ℕ) : put 16 (zeroed H o) (fun _ => 0#32) o = zeroed H (o + 16) := by
  funext x
  unfold put zeroed
  by_cases h : x < o
  · rw [if_neg (by omega), if_pos h, if_pos (by omega)]
  by_cases h' : x < o + 16
  · rw [if_pos (by omega), if_pos h']
  · rw [if_neg (by omega), if_neg h, if_neg h']

/-- Sixteen words zeroed: the load before the store is not used. -/
theorem wp_zero (m : Memref sig .scVector .vmem S1024 .i32) (o : ℕ) (inb : ∀ a, ![o] a + S16.size a ≤ S1024.size a) (hl) (hx) (hm) (H : ℕ → BitVec 32)
    (v : Vec F S16 .i32) (hv : v = Ic 0#32)
    (k : PUnit → Prog (TpuEff nD τ sig (Elt F) Λ₀ (.scVector (cV L) (jV L))) β) :
    Holds (F := F) d L m (zeroed H o) ⊢ iprop((Holds (F := F) d L m (zeroed H (o + 16)) -∗ WP d L (k ⟨⟩) Q)
      -∗ WP d L (Prog.lift (.load m (Rect.unit (s := S1024) ![o] S16.size inb).toLoadRect hl)
        >>= fun _ => Prog.lift (.store m (Rect.unit (s := S1024) ![o] S16.size inb) v Finset.univ hx hm) >>= k) Q) := by
  subst hv
  iintro A HK
  iapply (wp_loadN d L m inb hl (zeroed H o)) $$ A
  iintro A
  iapply (wp_storeN d L m inb hx hm (zeroed H o) (fun _ => 0#32)) $$ A
  rw [show ![o] (0 : Fin 1) = o from rfl, put_zeroed]
  iexact HK

variable (a : Args)

/-- The first nine stores and the operands' vectors. -/
theorem wp_part10 (H : ℕ → BitVec 32) (k : _ → Prog (TpuEff nD τ sig (Elt F) Λ₀ (.scVector (cV L) (jV L))) β) :
    Holds (F := F) d L a.arg7 H ⊢ iprop((∀ v1, Holds (F := F) d L a.arg7 (zeroed H 144)
        -∗ WP d L (k ⟨v1, I64, I8, Ic 0#32, Ic 1#32, Ic 2#32, Ic 3#32, Ic 4#32, Ic 5#32, Ic 6#32, Ic 7#32, Ic 1#32, Ic 0#32⟩) Q)
      -∗ WP d L (a.on (k0_part10 (F := F) L) >>= k) Q) := by
  have e : H = zeroed H 0 := by funext x; exact (if_neg (Nat.not_lt_zero x)).symm
  rw [e]
  generalize (H) = H at *
  rw [← pay182_eq, ← pay183_eq]
  simp only [Args.on, k0_part10_eq_skeleton]
  unfold k0_part10_skel
  simp only [Prog.bind_assoc]
  have ez : zeroed (zeroed H 0) 144 = zeroed H 144 := by rw [← e]
  rw [ez]
  iintro A HK
  iterate 9 (iapply (wp_zero d L a.arg7 _ _ _ _ _ H _ rfl) $$ A; iintro A)
  iapply HK $$ A

/-- Twenty more. -/
theorem wp_part11 (H : ℕ → BitVec 32) (k : _ → Prog (TpuEff nD τ sig (Elt F) Λ₀ (.scVector (cV L) (jV L))) β) :
    Holds (F := F) d L a.arg7 (zeroed H 144) ⊢ iprop((Holds (F := F) d L a.arg7 (zeroed H 464) -∗ WP d L (k ⟨⟩) Q)
      -∗ WP d L (a.on (k0_part11 (F := F) L) (Ic 0#32) >>= k) Q) := by
  simp only [Args.on, k0_part11_eq_skeleton]
  unfold k0_part11_skel
  simp only [Prog.bind_assoc]
  iintro A HK
  iterate 20 (iapply (wp_zero d L a.arg7 _ _ _ _ _ H _ rfl) $$ A; iintro A)
  iapply HK $$ A

/-- Twenty more. -/
theorem wp_part12 (H : ℕ → BitVec 32) (k : _ → Prog (TpuEff nD τ sig (Elt F) Λ₀ (.scVector (cV L) (jV L))) β) :
    Holds (F := F) d L a.arg7 (zeroed H 464) ⊢ iprop((Holds (F := F) d L a.arg7 (zeroed H 784) -∗ WP d L (k ⟨⟩) Q)
      -∗ WP d L (a.on (k0_part12 (F := F) L) (Ic 0#32) >>= k) Q) := by
  simp only [Args.on, k0_part12_eq_skeleton]
  unfold k0_part12_skel
  simp only [Prog.bind_assoc]
  iintro A HK
  iterate 20 (iapply (wp_zero d L a.arg7 _ _ _ _ _ H _ rfl) $$ A; iintro A)
  iapply HK $$ A

end Cert.Proof.Ideal

end
-- ==== Proof.IdealRows.lean ====
/- The rows of one tile: its own 31248 rows, tallied a chunk of 4096 at a time and then the last 2576. -/
module

public import proofs.«01_k».proof.Proof.IdealTile

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (d : Dev nD) (L : grid0.Coords)
variable {β : Type} {Q : β → sProp (MT nD τ sig (HIx 1) (Elt F) ℕ UU ℕ)}

/-- The tile's number. -/
def wid : ℕ := 2 * (L 1).val + (L 0).val

theorem wid_lt : wid L < 32 := by
  have h0 : (L 0).val < 2 := (L 0).isLt
  have h1 : (L 1).val < 16 := (L 1).isLt
  unfold wid; omega

/-- The tile's first row. -/
abbrev row0 : ℕ := 31248 * wid L

theorem off1_at (r : Fin 7) (c : BitVec 32) (hc : c = BitVec.ofNat 32 (4096 * r.val)) : k0_off1 L c 0 = 8 * (row0 L + 4096 * r.val) := by
  subst hc
  rw [k0_off1_eq]
  show 499968 * (L 1).val + 249984 * (L 0).val + 32768 * r.val = _
  unfold row0 wid; omega

theorem off2_at (r : Fin 7) (c : BitVec 32) (hc : c = BitVec.ofNat 32 (4096 * r.val)) : k0_off2 L c 0 = row0 L + 4096 * r.val := by
  subst hc
  rw [k0_off2_eq]
  show 62496 * (L 1).val + 31248 * (L 0).val + 4096 * r.val = _
  unfold row0 wid; omega

theorem off10_at : k0_off10 L 0 = 8 * (row0 L + 28672) := by
  rw [k0_off10_eq]
  show 499968 * (L 1).val + 249984 * (L 0).val + 229376 = _
  unfold row0 wid; omega

theorem off11_at : k0_off11 L 0 = row0 L + 28672 := by
  rw [k0_off11_eq]
  show 62496 * (L 1).val + 31248 * (L 0).val + 28672 = _
  unfold row0 wid; omega

variable (a : Args) {O : CellTallies nD τ sig (HIx 1)} {W₀ : Waits sig (HIx 1)}
variable {q q' : PosShare TreeShare} {fs : Buf (Elt F) (a.arg2.view.loc (V d (cV L) (jV L)))} {gs : Buf (Elt F) (a.arg3.view.loc (V d (cV L) (jV L)))}
variable {X : ℕ → F .f32} {T : ℕ → BitVec 32}

/-- After the tile's first `n` rows: the sources, the two buffers at anything, the table at the rows' tally. -/
def After (q q' : PosShare TreeShare) (fs : Buf (Elt F) (a.arg2.view.loc (V d (cV L) (jV L)))) (gs : Buf (Elt F) (a.arg3.view.loc (V d (cV L) (jV L))))
    (O : CellTallies nD τ sig (HIx 1)) (W₀ : Waits sig (HIx 1)) (H : ℕ → BitVec 32) : sProp 𝕄 :=
  iprop(Source d L a.arg2 q fs ∗ Source d L a.arg3 q' gs ∗ (∃ X', Holds (F := F) d L a.arg5 X') ∗ (∃ T', Holds (F := F) d L a.arg6 T')
    ∗ Holds (F := F) d L a.arg7 H ∗ Owing d L O W₀)

/-- The same with the two buffers at the rows from row `B` on. -/
def Loaded (q q' : PosShare TreeShare) (fs : Buf (Elt F) (a.arg2.view.loc (V d (cV L) (jV L)))) (gs : Buf (Elt F) (a.arg3.view.loc (V d (cV L) (jV L))))
    (O : CellTallies nD τ sig (HIx 1)) (W₀ : Waits sig (HIx 1)) (X' : ℕ → F .f32) (T' : ℕ → BitVec 32) (H : ℕ → BitVec 32) : sProp 𝕄 :=
  iprop(Source d L a.arg2 q fs ∗ Source d L a.arg3 q' gs ∗ Holds (F := F) d L a.arg5 X' ∗ Holds (F := F) d L a.arg6 T'
    ∗ Holds (F := F) d L a.arg7 H ∗ Owing d L O W₀)

/-- The tally of the tile's first `n` rows. -/
abbrev own (X : ℕ → F .f32) (T : ℕ → BitVec 32) (n : ℕ) : ℕ → BitVec 32 := tally (shX X (row0 L)) (shT T (row0 L)) n

/-- A chunk more: `N` trips over the rows from row `n` on, `M` rows fetched into whole buffers. -/
theorem own_chunk (n m : ℕ) (h : 16 ∣ n) :
    (fun x => own L X T n x + tally (shX X (row0 L + n)) (shT T (row0 L + n)) m x) = own L X T (n + m) := by
  funext x; exact tally_append X T (row0 L) n m x h

theorem row_lt (h8 : ∀ r < 1000000, (T r).toNat < 8) (n : ℕ) (hn : n < 31248) : (T (row0 L + n)).toNat < 8 := h8 _ (by have := wid_lt L; unfold row0; omega)

section
variable (hX : a.arg2.view.read (Elt F) fs = vec1 8000000 X) (hT : a.arg3.view.read (Elt F) gs = vec1 1000000 T) (h8 : ∀ r < 1000000, (T r).toNat < 8)
include hX hT h8

omit h8 in
/-- The two fetches of a chunk. -/
theorem wp_bring (r : Fin 7) (c : BitVec 32) (hc : c = BitVec.ofNat 32 (4096 * r.val)) (s s' : DmaSem sig) (H : ℕ → BitVec 32)
    (i1) (i2) (e1) (e2) (e3) (e4) (e5) (e6) (e7) (e8) (e9) (e10)
    (k : PUnit → Prog (TpuEff nD τ sig (Elt F) Λ₀ (.scVector (cV L) (jV L))) β) :
    iprop(After d L a q q' fs gs O W₀ H ∗ Idle d L s ∗ Idle d L s')
      ⊢ iprop((iprop(Loaded d L a q q' fs gs O W₀ (shX X (row0 L + 4096 * r.val)) (shT T (row0 L + 4096 * r.val)) H ∗ Idle d L s ∗ Idle d L s') -∗ WP d L (k ⟨⟩) Q)
        -∗ WP d L (Prog.lift (.enqueueDma (run 32768 a.arg2 (k0_off1 L c) i1) (.here a.arg5) (.dma s) e1 e2 e3)
          >>= fun _ => Prog.lift (.waitDma2 s (run 32768 a.arg2 (k0_off1 L c) i1) a.arg5 e4 e5)
          >>= fun _ => Prog.lift (.enqueueDma (run 4096 a.arg3 (k0_off2 L c) i2) (.here a.arg6) (.dma s') e6 e7 e8)
          >>= fun _ => Prog.lift (.waitDma2 s' (run 4096 a.arg3 (k0_off2 L c) i2) a.arg6 e9 e10) >>= k) Q) := by
  unfold After Loaded
  iintro ⟨⟨HS, HT, ⟨%X', H5⟩, ⟨%T', H6⟩, H7, HO⟩, Hs, Hs'⟩ HK
  iapply (wp_fetch d L a.arg2 q fs (k0_off1 L c) i1 a.arg5 s e1 e2 e3 e4 e5 (a.arg5.view.dmaCredit_pos (by decide)) X' X hX) $$ [HS H5 Hs HO]
  · isplitl [HS]; · iexact HS
    isplitl [H5]; · iexact H5
    isplitl [Hs]; · iexact Hs
    iexact HO
  iintro ⟨HS, H5, Hs, HO⟩
  iapply (wp_fetch d L a.arg3 q' gs (k0_off2 L c) i2 a.arg6 s' e6 e7 e8 e9 e10 (a.arg6.view.dmaCredit_pos (by decide)) T' T hT) $$ [HT H6 Hs' HO]
  · isplitl [HT]; · iexact HT
    isplitl [H6]; · iexact H6
    isplitl [Hs']; · iexact Hs'
    iexact HO
  iintro ⟨HT, H6, Hs', HO⟩
  rw [off1_at L r c hc, off2_at L r c hc]
  iapply HK
  isplitr [Hs Hs']
  · isplitl [HS]; · iexact HS
    isplitl [HT]; · iexact HT
    isplitl [H5]; · iexact H5
    isplitl [H6]; · iexact H6
    isplitl [H7]; · iexact H7
    iexact HO
  isplitl [Hs]; · iexact Hs
  iexact Hs'

omit hX hT in
/-- A loop over the `16 * N` rows from row `n` of the tile on, the buffers holding them. -/
theorem wp_loop (n N : ℕ) (hn : 16 ∣ n) (hle : N ≤ 256) (hb : n + 16 * N ≤ 31248) (ub : BitVec 32) (hN : Scf.trips 0#32 ub 1#32 = N) (hok) (init v81 : BitVec 32)
    (body : Fin (Scf.trips 0#32 ub 1#32) → BitVec 32 → Prog (TpuEff nD τ sig (Elt F) Λ₀ (.scVector (cV L) (jV L))) (BitVec 32))
    (hbody : ∀ t (t' : Fin k0_t1_loop.trips) acc, t.val = t'.val →
      body t acc = a.on (k0_t1_body (F := F) L) I64 I8 (Ic 0#32) (Ic 1#32) (Ic 2#32) (Ic 3#32) (Ic 4#32) (Ic 5#32) (Ic 6#32) (Ic 7#32) (Ic 1#32) v81 t' acc)
    (X' : ℕ → F .f32) (T' : ℕ → BitVec 32) (hX' : ∀ j < 8 * (16 * N), X' j = shX X (row0 L + n) j) (hT' : ∀ j < 16 * N, T' j = shT T (row0 L + n) j)
    (k : BitVec 32 → Prog (TpuEff nD τ sig (Elt F) Λ₀ (.scVector (cV L) (jV L))) β) :
    Loaded d L a q q' fs gs O W₀ X' T' (own L X T n)
      ⊢ iprop((∀ acc, After d L a q q' fs gs O W₀ (own L X T (n + 16 * N)) -∗ WP d L (k acc) Q)
        -∗ WP d L (Scf.for 0#32 ub 1#32 hok init body >>= k) Q) := by
  unfold After Loaded
  iintro ⟨HS, HT, H5, H6, H7, HO⟩ HK
  iapply (wp_rows d L a ub N hN hle hok init v81 body hbody X' T' (own L X T n)
    (fun m hm => by
      rw [hT' m hm]
      have := row_lt L h8 (n + m) (by omega)
      rwa [← Nat.add_assoc] at this) k) $$ [H5 H6 H7]
  · isplitl [H5]; · iexact H5
    isplitl [H6]; · iexact H6
    iexact H7
  iintro %acc ⟨H5, H6, H7⟩
  rw [show (fun x => own L X T n x + tally X' T' (16 * N) x) = own L X T (n + 16 * N) from by
    rw [← own_chunk L n (16 * N) hn]; funext x; rw [tally_congr hX' hT' x]]
  iapply HK
  isplitl [HS]; · iexact HS
  isplitl [HT]; · iexact HT
  isplitl [H5]; · iexists _; iexact H5
  isplitl [H6]; · iexists _; iexact H6
  isplitl [H7]; · iexact H7
  iexact HO

/-- A chunk of 4096 rows: the two fetches, then the loop. -/
theorem wp_chunk (r : Fin 7) (c : BitVec 32) (hc : c = BitVec.ofNat 32 (4096 * r.val)) (s s' : DmaSem sig) (i1) (i2) (e1) (e2) (e3) (e4) (e5) (e6) (e7) (e8) (e9) (e10)
    (ub : BitVec 32) (hN : Scf.trips 0#32 ub 1#32 = 256) (hok) (init v81 : BitVec 32)
    (body : Fin (Scf.trips 0#32 ub 1#32) → BitVec 32 → Prog (TpuEff nD τ sig (Elt F) Λ₀ (.scVector (cV L) (jV L))) (BitVec 32))
    (hbody : ∀ t (t' : Fin k0_t1_loop.trips) acc, t.val = t'.val →
      body t acc = a.on (k0_t1_body (F := F) L) I64 I8 (Ic 0#32) (Ic 1#32) (Ic 2#32) (Ic 3#32) (Ic 4#32) (Ic 5#32) (Ic 6#32) (Ic 7#32) (Ic 1#32) v81 t' acc)
    (k : BitVec 32 → Prog (TpuEff nD τ sig (Elt F) Λ₀ (.scVector (cV L) (jV L))) β) :
    iprop(After d L a q q' fs gs O W₀ (own L X T (4096 * r.val)) ∗ Idle d L s ∗ Idle d L s')
      ⊢ iprop((∀ acc, iprop(After d L a q q' fs gs O W₀ (own L X T (4096 * (r.val + 1))) ∗ Idle d L s ∗ Idle d L s') -∗ WP d L (k acc) Q)
        -∗ WP d L (Prog.lift (.enqueueDma (run 32768 a.arg2 (k0_off1 L c) i1) (.here a.arg5) (.dma s) e1 e2 e3)
          >>= fun _ => Prog.lift (.waitDma2 s (run 32768 a.arg2 (k0_off1 L c) i1) a.arg5 e4 e5)
          >>= fun _ => Prog.lift (.enqueueDma (run 4096 a.arg3 (k0_off2 L c) i2) (.here a.arg6) (.dma s') e6 e7 e8)
          >>= fun _ => Prog.lift (.waitDma2 s' (run 4096 a.arg3 (k0_off2 L c) i2) a.arg6 e9 e10)
          >>= fun _ => Scf.for 0#32 ub 1#32 hok init body >>= k) Q) := by
  iintro HA HK
  iapply (wp_bring (O := O) (W₀ := W₀) (q := q) (q' := q') (fs := fs) (gs := gs) d L a hX hT r c hc s s' _ i1 i2 e1 e2 e3 e4 e5 e6 e7 e8 e9 e10) $$ HA
  iintro ⟨HA, HI⟩
  iapply (wp_loop d L a h8 (4096 * r.val) 256 (by omega) (by omega) (by have := r.isLt; omega) ub hN hok init v81 body hbody _ _ (fun _ _ => rfl) (fun _ _ => rfl)) $$ HA
  iintro %acc HA
  rw [show 4096 * r.val + 16 * 256 = 4096 * (r.val + 1) by omega]
  iapply HK
  isplitl [HA]; · iexact HA
  iexact HI

omit hT h8 in
/-- The last stores of zeros, the first chunk's scores, and its targets on their way. -/
theorem wp_part13 (v1 : BitVec 32) (H : ℕ → BitVec 32) (k : _ → Prog (TpuEff nD τ sig (Elt F) Λ₀ (.scVector (cV L) (jV L))) β) :
    iprop(After d L a q q' fs gs O W₀ (zeroed H 784) ∗ Idle d L (a.r 0).sem ∗ Idle d L (a.r 1).sem)
      ⊢ iprop((∀ v81, iprop(Source d L a.arg2 q fs ∗ Holds (F := F) d L a.arg5 (shX X (row0 L)) ∗ Holds (F := F) d L a.arg7 (fun _ => 0#32) ∗ Owing d L O W₀
          ∗ Idle d L (a.r 0).sem ∗ Coming d L a.arg3 q' gs (k0_off2 L 0#32) (k0_off2_inb L 0) a.arg6 (a.r 1).sem) -∗ WP d L (k v81) Q)
        -∗ WP d L (a.on (k0_part13 (F := F) L) v1 (Ic 0#32) >>= k) Q) := by
  simp only [Args.on, k0_part13_eq_skeleton]
  unfold k0_part13_skel After
  simp only [Prog.bind_assoc, Prog.pure_eq_ret, Prog.bind_ret]
  iintro ⟨⟨HS, HT, ⟨%X', H5⟩, ⟨%T', H6⟩, H7, HO⟩, Hs, Hs'⟩ HK
  iterate 15 (iapply (wp_zero d L a.arg7 _ _ _ _ _ H _ rfl) $$ H7; iintro H7)
  iapply (wp_fetch d L a.arg2 q fs (k0_off1 L 0#32) (k0_off1_inb L 0) a.arg5 (a.r 0).sem _ _ _ _ _ (a.arg5.view.dmaCredit_pos (by decide)) X' X hX) $$ [HS H5 Hs HO]
  · isplitl [HS]; · iexact HS
    isplitl [H5]; · iexact H5
    isplitl [Hs]; · iexact Hs
    iexact HO
  iintro ⟨HS, H5, Hs, HO⟩
  rw [off1_at L 0 0#32 rfl]
  iapply (wp_startN d L a.arg3 q' gs (k0_off2 L 0#32) (k0_off2_inb L 0) a.arg6 (a.r 1).sem _ _ _ (a.arg6.view.dmaCredit_pos (by decide)) T') $$ [HT H6 Hs']
  · isplitl [HT]; · iexact HT
    isplitl [H6]; · iexact H6
    iexact Hs'
  iintro HC
  ihave H7 := (Holds_congr (F := F) d L a.arg7 (H := zeroed H 1024) (H' := fun _ => 0#32) fun x hx => if_pos hx) $$ H7
  iapply HK
  isplitl [HS]; · iexact HS
  isplitl [H5]; · iexact H5
  isplitl [H7]; · iexact H7
  isplitl [HO]; · iexact HO
  isplitl [Hs]; · iexact Hs
  iexact HC

/-- The first three chunks. -/
theorem wp_part14 (v81 : BitVec 32) (k : _ → Prog (TpuEff nD τ sig (Elt F) Λ₀ (.scVector (cV L) (jV L))) β) :
    iprop(iprop(Source d L a.arg2 q fs ∗ Holds (F := F) d L a.arg5 (shX X (row0 L)) ∗ Holds (F := F) d L a.arg7 (fun _ => 0#32) ∗ Owing d L O W₀
        ∗ Coming d L a.arg3 q' gs (k0_off2 L 0#32) (k0_off2_inb L 0) a.arg6 (a.r 1).sem)
        ∗ iprop(Idle d L (a.r 2).sem ∗ Idle d L (a.r 3).sem) ∗ iprop(Idle d L (a.r 4).sem ∗ Idle d L (a.r 5).sem))
      ⊢ iprop((iprop(After d L a q q' fs gs O W₀ (own L X T 12288) ∗ Idle d L (a.r 1).sem ∗ iprop(Idle d L (a.r 2).sem ∗ Idle d L (a.r 3).sem)
          ∗ iprop(Idle d L (a.r 4).sem ∗ Idle d L (a.r 5).sem)) -∗ WP d L (k ⟨⟩) Q)
        -∗ WP d L (a.on (k0_part14 (F := F) L) I64 I8 (Ic 0#32) (Ic 1#32) (Ic 2#32) (Ic 3#32) (Ic 4#32) (Ic 5#32) (Ic 6#32) (Ic 7#32) (Ic 1#32) v81 >>= k) Q) := by
  simp only [Args.on, k0_part14_eq_skeleton]
  unfold k0_part14_skel
  simp only [Prog.bind_assoc, Prog.pure_eq_ret, Prog.bind_ret]
  iintro ⟨⟨HS, H5, H7, HO, HC⟩, H23, H45⟩ HK
  iapply (wp_waitN d L a.arg3 q' gs (k0_off2 L 0#32) (k0_off2_inb L 0) a.arg6 (a.r 1).sem _ _ T hT) $$ [HC HO]
  · isplitl [HC]; · iexact HC
    iexact HO
  iintro ⟨HT, H6, H1, HO⟩
  rw [off2_at L 0 0#32 rfl]
  iapply (wp_rows d L a _ 256 (by decide) (by omega) _ _ v81 (k0_t1_body (F := F) L a.arg2 a.h2 a.arg3 a.h3 a.arg4 a.h4 a.arg5 a.h5 a.arg6 a.h6 a.arg7 a.h7 a.arg8 a.h8
    (a.r 0) (a.r 1) (a.r 2) (a.r 3) (a.r 4) (a.r 5) (a.r 6) (a.r 7) (a.r 8) (a.r 9) (a.r 10) (a.r 11) (a.r 12) (a.r 13) (a.r 14) (a.r 15) (a.r 16) (a.r 17) (a.r 18)
    I64 I8 (Ic 0#32) (Ic 1#32) (Ic 2#32) (Ic 3#32) (Ic 4#32) (Ic 5#32) (Ic 6#32) (Ic 7#32) (Ic 1#32) v81) (fun t t' acc h => by rw [Fin.ext h]) (shX X (row0 L)) (shT T (row0 L)) (fun _ => 0#32)
    (fun n hn => row_lt L h8 n (by omega))) $$ [H5 H6 H7]
  · isplitl [H5]; · iexact H5
    isplitl [H6]; · iexact H6
    iexact H7
  iintro %acc ⟨H5, H6, H7⟩
  have e0 : (fun x => 0#32 + tally (shX X (row0 L)) (shT T (row0 L)) (16 * 256) x) = own L X T (4096 * (1 : Fin 7).val) := by
    funext x; exact zero_add _
  rw [e0]
  iapply (wp_chunk (O := O) (W₀ := W₀) (q := q) (q' := q') (fs := fs) (gs := gs) d L a hX hT h8 1 4096#32 rfl (a.r 2).sem (a.r 3).sem _ _ _ _ _ _ _ _ _ _ _ _ _ (by decide) _ _ v81
    _ (fun t t' acc h => by obtain rfl : t = t' := Fin.ext h; rfl)) $$ [HS HT H5 H6 H7 HO H23]
  · isplitr [H23]
    · unfold After
      isplitl [HS]; · iexact HS
      isplitl [HT]; · iexact HT
      isplitl [H5]; · iexists _; iexact H5
      isplitl [H6]; · iexists _; iexact H6
      isplitl [H7]; · iexact H7
      iexact HO
    iexact H23
  iintro %acc1 ⟨HA, H23⟩
  iapply (wp_chunk (O := O) (W₀ := W₀) (q := q) (q' := q') (fs := fs) (gs := gs) d L a hX hT h8 2 8192#32 rfl (a.r 4).sem (a.r 5).sem _ _ _ _ _ _ _ _ _ _ _ _ _ (by decide) _ _ v81
    _ (fun t t' acc h => by obtain rfl : t = t' := Fin.ext h; rfl)) $$ [HA H45]
  · isplitl [HA]; · iexact HA
    iexact H45
  iintro %acc2 ⟨HA, H45⟩
  iapply HK
  isplitl [HA]; · iexact HA
  isplitl [H1]; · iexact H1
  isplitl [H23]; · iexact H23
  iexact H45

/-- Two chunks more, and the sixth fetched. -/
theorem wp_part15 (v81 : BitVec 32) (k : _ → Prog (TpuEff nD τ sig (Elt F) Λ₀ (.scVector (cV L) (jV L))) β) :
    iprop(After d L a q q' fs gs O W₀ (own L X T 12288) ∗ iprop(Idle d L (a.r 6).sem ∗ Idle d L (a.r 7).sem)
        ∗ iprop(Idle d L (a.r 8).sem ∗ Idle d L (a.r 9).sem) ∗ iprop(Idle d L (a.r 10).sem ∗ Idle d L (a.r 11).sem))
      ⊢ iprop((iprop(Loaded d L a q q' fs gs O W₀ (shX X (row0 L + 20480)) (shT T (row0 L + 20480)) (own L X T 20480) ∗ iprop(Idle d L (a.r 6).sem ∗ Idle d L (a.r 7).sem)
        ∗ iprop(Idle d L (a.r 8).sem ∗ Idle d L (a.r 9).sem) ∗ iprop(Idle d L (a.r 10).sem ∗ Idle d L (a.r 11).sem)) -∗ WP d L (k ⟨0#32, 0#32, 256#32⟩) Q)
        -∗ WP d L (a.on (k0_part15 (F := F) L) I64 I8 (Ic 0#32) (Ic 1#32) (Ic 2#32) (Ic 3#32) (Ic 4#32) (Ic 5#32) (Ic 6#32) (Ic 7#32) (Ic 1#32) v81 >>= k) Q) := by
  simp only [Args.on, k0_part15_eq_skeleton]
  unfold k0_part15_skel
  simp only [Prog.bind_assoc, Prog.pure_eq_ret, Prog.bind_ret]
  iintro ⟨HA, H67, H89, HAB⟩ HK
  iapply (wp_chunk (O := O) (W₀ := W₀) (q := q) (q' := q') (fs := fs) (gs := gs) d L a hX hT h8 3 12288#32 rfl (a.r 6).sem (a.r 7).sem _ _ _ _ _ _ _ _ _ _ _ _ _ (by decide) _ _ v81
    _ (fun t t' acc h => by obtain rfl : t = t' := Fin.ext h; rfl)) $$ [HA H67]
  · isplitl [HA]; · iexact HA
    iexact H67
  iintro %acc1 ⟨HA, H67⟩
  iapply (wp_chunk (O := O) (W₀ := W₀) (q := q) (q' := q') (fs := fs) (gs := gs) d L a hX hT h8 4 16384#32 rfl (a.r 8).sem (a.r 9).sem _ _ _ _ _ _ _ _ _ _ _ _ _ (by decide) _ _ v81
    _ (fun t t' acc h => by obtain rfl : t = t' := Fin.ext h; rfl)) $$ [HA H89]
  · isplitl [HA]; · iexact HA
    iexact H89
  iintro %acc2 ⟨HA, H89⟩
  iapply (wp_bring (O := O) (W₀ := W₀) (q := q) (q' := q') (fs := fs) (gs := gs) d L a hX hT 5 20480#32 rfl (a.r 10).sem (a.r 11).sem) $$ [HA HAB]
  · isplitl [HA]; · iexact HA
    iexact HAB
  iintro ⟨HA, HAB⟩
  iapply HK
  isplitl [HA]; · iexact HA
  isplitl [H67]; · iexact H67
  isplitl [H89]; · iexact H89
  iexact HAB

/-- The sixth and the seventh chunk, and the tile's last 2576 rows fetched into the head of the buffers. -/
theorem wp_part16 (v81 : BitVec 32) (k : _ → Prog (TpuEff nD τ sig (Elt F) Λ₀ (.scVector (cV L) (jV L))) β) :
    iprop(Loaded d L a q q' fs gs O W₀ (shX X (row0 L + 20480)) (shT T (row0 L + 20480)) (own L X T 20480)
        ∗ iprop(Idle d L (a.r 12).sem ∗ Idle d L (a.r 13).sem) ∗ iprop(Idle d L (a.r 14).sem ∗ Idle d L (a.r 15).sem))
      ⊢ iprop((∀ X' T', iprop(Loaded d L a q q' fs gs O W₀ (put 20608 X' (shX X (row0 L + 28672)) 0) (put 2576 T' (shT T (row0 L + 28672)) 0) (own L X T 28672)
        ∗ iprop(Idle d L (a.r 12).sem ∗ Idle d L (a.r 13).sem) ∗ iprop(Idle d L (a.r 14).sem ∗ Idle d L (a.r 15).sem)) -∗ WP d L (k 0#32) Q)
        -∗ WP d L (a.on (k0_part16 (F := F) L) I64 I8 (Ic 0#32) (Ic 1#32) (Ic 2#32) (Ic 3#32) (Ic 4#32) (Ic 5#32) (Ic 6#32) (Ic 7#32) (Ic 1#32) v81 0#32 0#32 256#32 >>= k) Q) := by
  simp only [Args.on, k0_part16_eq_skeleton]
  unfold k0_part16_skel
  simp only [Prog.bind_assoc, Prog.pure_eq_ret, Prog.bind_ret]
  iintro ⟨HA, HCD, HE, HF⟩ HK
  iapply (wp_loop d L a h8 20480 256 (by decide) (by omega) (by omega) _ (by decide) _ _ v81
    _ (fun t t' acc h => by obtain rfl : t = t' := Fin.ext h; rfl) _ _ (fun _ _ => rfl) (fun _ _ => rfl)) $$ HA
  iintro %acc HA
  iapply (wp_chunk (O := O) (W₀ := W₀) (q := q) (q' := q') (fs := fs) (gs := gs) d L a hX hT h8 6 24576#32 rfl (a.r 12).sem (a.r 13).sem _ _ _ _ _ _ _ _ _ _ _ _ _ (by decide) _ _ v81
    _ (fun t t' acc h => by obtain rfl : t = t' := Fin.ext h; rfl)) $$ [HA HCD]
  · isplitl [HA]; · iexact HA
    iexact HCD
  unfold After Loaded
  iintro %acc1 ⟨⟨HS, HT, ⟨%X', H5⟩, ⟨%T', H6⟩, H7, HO⟩, HCD⟩
  iapply (wp_fetchPart d L a.arg2 q fs (k0_off10 L) (k0_off10_inb L) a.arg5 ![0] inb_S32768_S20608_0 (a.r 14).sem _ _ _ _ _ (View.dmaCredit_pos _ (by decide)) X' X hX) $$ [HS H5 HE HO]
  · isplitl [HS]; · iexact HS
    isplitl [H5]; · iexact H5
    isplitl [HE]; · iexact HE
    iexact HO
  iintro ⟨HS, H5, HE, HO⟩
  iapply (wp_fetchPart d L a.arg3 q' gs (k0_off11 L) (k0_off11_inb L) a.arg6 ![0] inb_S4096_S2576_0 (a.r 15).sem _ _ _ _ _ (View.dmaCredit_pos _ (by decide)) T' T hT) $$ [HT H6 HF HO]
  · isplitl [HT]; · iexact HT
    isplitl [H6]; · iexact H6
    isplitl [HF]; · iexact HF
    iexact HO
  iintro ⟨HT, H6, HF, HO⟩
  rw [off10_at L, off11_at L]
  iapply HK
  isplitr [HCD HE HF]
  · isplitl [HS]; · iexact HS
    isplitl [HT]; · iexact HT
    isplitl [H5]; · iexact H5
    isplitl [H6]; · iexact H6
    isplitl [H7]; · iexact H7
    iexact HO
  isplitl [HCD]; · iexact HCD
  isplitl [HE]; · iexact HE
  iexact HF

end

end Cert.Proof.Ideal

end
-- ==== Proof.IdealFold.lean ====
/- The end of one tile: the sixteen rows of the tail on the first four tiles, the table folded over its lanes and the
   output row sent. -/
module

public import proofs.«01_k».proof.Proof.IdealRows

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (d : Dev nD) (L : grid0.Coords)
variable {β : Type} {Q : β → sProp (MT nD τ sig (HIx 1) (Elt F) ℕ UU ℕ)}

variable (a : Args) {O : CellTallies nD τ sig (HIx 1)} {W₀ : Waits sig (HIx 1)}
variable {q q' : PosShare TreeShare} {fs : Buf (Elt F) (a.arg2.view.loc (V d (cV L) (jV L)))} {gs : Buf (Elt F) (a.arg3.view.loc (V d (cV L) (jV L)))}
variable {X : ℕ → F .f32} {T : ℕ → BitVec 32}

/-- The first row of the tile's part of the tail. -/
abbrev row1 : ℕ := 999936 + 16 * wid L

theorem off13_at : k0_off13 L 0 = 8 * row1 L := by
  rw [k0_off13_eq]
  show 256 * (L 1).val + 128 * (L 0).val + 7999488 = _
  unfold row1 wid; omega

theorem off14_at : k0_off14 L 0 = row1 L := by
  rw [k0_off14_eq]
  show 32 * (L 1).val + 16 * (L 0).val + 999936 = _
  unfold row1 wid; omega

/-- The table over the tile's own rows and its part of the tail. -/
def table (X : ℕ → F .f32) (T : ℕ → BitVec 32) (x : ℕ) : BitVec 32 :=
  own L X T 31248 x + if k0_cond1 L = 1#1 then tally (shX X (row1 L)) (shT T (row1 L)) 16 x else 0#32

/-- The tail's slots. -/
theorem pay206_eq (y : ℕ → ℕ → F .f32) (T' : ℕ → BitVec 32) :
    k0_pay206 I64 (Ic 0#32) (Ic 1#32) (Ic 2#32) (Ic 3#32) (Ic 4#32) (Ic 5#32) (Ic 6#32) (Ic 7#32) (vec1 16 (y 0)) (vec1 16 (y 1)) (vec1 16 (y 2)) (vec1 16 (y 3))
      (vec1 16 (y 4)) (vec1 16 (y 5)) (vec1 16 (y 6)) (vec1 16 (y 7)) (vec1 16 T')
    = vec1 16 fun l => T' l * 8#32 + (pred8 fun j => y j l) + BitVec.ofNat 32 l * 64#32 := rfl

/-- The `j`th score's index on each lane of the tail. -/
def look0 (j : BitVec 32) (l : ℕ) : BitVec 32 := 0#32 * 16#32 * 8#32 + BitVec.ofNat 32 l * 8#32 + j

theorem tail_look (j l : ℕ) (hj : j < 8) (hl : l < 16) : (look0 (BitVec.ofNat 32 j) l).toNat = 8 * l + j ∧ 8 * l + j < 32768 := by
  refine ⟨?_, by omega⟩
  unfold look0
  simp only [BitVec.toNat_add, BitVec.toNat_mul, BitVec.toNat_ofNat]
  omega

/-- The tail's sixteen bumps are the tally of its sixteen rows. -/
theorem tail_tally (Y X' : ℕ → F .f32) (U T' : ℕ → BitVec 32) (x : ℕ) :
    ∑ l ∈ Finset.range 16, ind (64 * l + bin (put 128 Y X' 0) (put 16 U T' 0) l) x = tally X' T' 16 x := by
  unfold tally
  refine Finset.sum_congr rfl fun l hl => ?_
  have hl := Finset.mem_range.mp hl
  rw [Nat.mod_eq_of_lt hl, bin_congr (X' := X') (T' := T') (r' := l) (if_pos ⟨by omega, by omega⟩) fun j hj => if_pos ⟨by omega, by omega⟩]

/-! ## The fold over the lanes -/

theorem pay207_eq (H : ℕ → BitVec 32) :
    k0_pay207 (F := F) (Ic 0#32) (vec1 16 fun j => H (0 + j)) (vec1 16 fun j => H (64 + j)) (vec1 16 fun j => H (128 + j)) (vec1 16 fun j => H (192 + j))
      (vec1 16 fun j => H (256 + j)) (vec1 16 fun j => H (320 + j)) (vec1 16 fun j => H (384 + j)) (vec1 16 fun j => H (448 + j))
      (vec1 16 fun j => H (512 + j)) (vec1 16 fun j => H (576 + j)) (vec1 16 fun j => H (640 + j)) (vec1 16 fun j => H (704 + j))
      (vec1 16 fun j => H (768 + j)) (vec1 16 fun j => H (832 + j)) (vec1 16 fun j => H (896 + j)) (vec1 16 fun j => H (960 + j))
    = vec1 16 fun j => fold16 H (0 + j) := by
  funext x
  simp [k0_pay207, addi, IntOp.addi, fold16, Finset.sum_range_succ, ← Nat.add_assoc]

theorem pay208_eq (H : ℕ → BitVec 32) :
    k0_pay208 (F := F) (Ic 0#32) (vec1 16 fun j => H (16 + j)) (vec1 16 fun j => H (80 + j)) (vec1 16 fun j => H (144 + j)) (vec1 16 fun j => H (208 + j))
      (vec1 16 fun j => H (272 + j)) (vec1 16 fun j => H (336 + j)) (vec1 16 fun j => H (400 + j)) (vec1 16 fun j => H (464 + j))
      (vec1 16 fun j => H (528 + j)) (vec1 16 fun j => H (592 + j)) (vec1 16 fun j => H (656 + j)) (vec1 16 fun j => H (720 + j))
      (vec1 16 fun j => H (784 + j)) (vec1 16 fun j => H (848 + j)) (vec1 16 fun j => H (912 + j)) (vec1 16 fun j => H (976 + j))
    = vec1 16 fun j => fold16 H (16 + j) := by
  funext x
  simp [k0_pay208, addi, IntOp.addi, fold16, Finset.sum_range_succ, ← Nat.add_assoc]

theorem pay210_eq (H : ℕ → BitVec 32) :
    k0_pay210 (F := F) (k0_pay209 (F := F) (Ic 0#32) (vec1 16 fun j => H (32 + j)) (vec1 16 fun j => H (96 + j))) (vec1 16 fun j => H (160 + j)) (vec1 16 fun j => H (224 + j))
      (vec1 16 fun j => H (288 + j)) (vec1 16 fun j => H (352 + j)) (vec1 16 fun j => H (416 + j)) (vec1 16 fun j => H (480 + j))
      (vec1 16 fun j => H (544 + j)) (vec1 16 fun j => H (608 + j)) (vec1 16 fun j => H (672 + j)) (vec1 16 fun j => H (736 + j))
      (vec1 16 fun j => H (800 + j)) (vec1 16 fun j => H (864 + j)) (vec1 16 fun j => H (928 + j)) (vec1 16 fun j => H (992 + j))
    = vec1 16 fun j => fold16 H (32 + j) := by
  funext x
  simp [k0_pay209, k0_pay210, addi, IntOp.addi, fold16, Finset.sum_range_succ, ← Nat.add_assoc]

theorem pay212_eq (H : ℕ → BitVec 32) :
    k0_pay212 (F := F) (k0_pay211 (F := F) (Ic 0#32) (vec1 16 fun j => H (48 + j)) (vec1 16 fun j => H (112 + j)) (vec1 16 fun j => H (176 + j)) (vec1 16 fun j => H (240 + j))
      (vec1 16 fun j => H (304 + j))) (vec1 16 fun j => H (368 + j)) (vec1 16 fun j => H (432 + j)) (vec1 16 fun j => H (496 + j))
      (vec1 16 fun j => H (560 + j)) (vec1 16 fun j => H (624 + j)) (vec1 16 fun j => H (688 + j)) (vec1 16 fun j => H (752 + j))
      (vec1 16 fun j => H (816 + j)) (vec1 16 fun j => H (880 + j)) (vec1 16 fun j => H (944 + j)) (vec1 16 fun j => H (1008 + j))
    = vec1 16 fun j => fold16 H (48 + j) := by
  funext x
  simp [k0_pay211, k0_pay212, addi, IntOp.addi, fold16, Finset.sum_range_succ, ← Nat.add_assoc]

/-- The output row after its first `n` groups of sixteen bins. -/
def folded (H O : ℕ → BitVec 32) (n x : ℕ) : BitVec 32 := if x < n then fold16 H x else O x

theorem put_folded (H O : ℕ → BitVec 32) (n : ℕ) : put 16 (folded H O n) (fun j => fold16 H (n + j)) n = folded H O (n + 16) := by
  funext x
  unfold put folded
  by_cases h : x < n
  · rw [if_neg (by omega), if_pos h, if_pos (by omega)]
  by_cases h' : x < n + 16
  · rw [if_pos (by omega), if_pos h']
    show fold16 H (n + (x - n)) = _
    rw [Nat.add_sub_cancel' (by omega)]
  · rw [if_neg (by omega), if_neg h, if_neg h']

/-- A group of sixteen bins stored: the load before the store is not used. -/
theorem wp_group (m : Memref sig .scVector .vmem S64 .i32) (o : ℕ) (inb : ∀ a, ![o] a + S16.size a ≤ S64.size a) (hl) (hx) (hm) (H R : ℕ → BitVec 32)
    (v : Vec F S16 .i32) (hv : v = vec1 16 fun j => fold16 H (o + j))
    (k : PUnit → Prog (TpuEff nD τ sig (Elt F) Λ₀ (.scVector (cV L) (jV L))) β) :
    Holds (F := F) d L m (folded H R o) ⊢ iprop((Holds (F := F) d L m (folded H R (o + 16)) -∗ WP d L (k ⟨⟩) Q)
      -∗ WP d L (Prog.lift (.load m (Rect.unit (s := S64) ![o] S16.size inb).toLoadRect hl)
        >>= fun _ => Prog.lift (.store m (Rect.unit (s := S64) ![o] S16.size inb) v Finset.univ hx hm) >>= k) Q) := by
  subst hv
  iintro A HK
  iapply (wp_loadN d L m inb hl (folded H R o)) $$ A
  iintro A
  iapply (wp_storeN d L m inb hx hm (folded H R o) (fun j => fold16 H (o + j))) $$ A
  rw [show ![o] (0 : Fin 1) = o from rfl, put_folded]
  iexact HK

/-- Parts 18 and 19. -/
theorem wp_part18 (H R : ℕ → BitVec 32) (k : _ → Prog (TpuEff nD τ sig (Elt F) Λ₀ (.scVector (cV L) (jV L))) β) :
    iprop(Holds (F := F) d L a.arg7 H ∗ Holds (F := F) d L a.arg8 (folded H R 0)) ⊢ iprop((iprop(Holds (F := F) d L a.arg7 H ∗ Holds (F := F) d L a.arg8 (folded H R 32))
        -∗ WP d L (k (k0_pay209 (F := F) (Ic 0#32) (vec1 16 fun j => H (32 + j)) (vec1 16 fun j => H (96 + j)))) Q)
      -∗ WP d L (a.on (k0_part18 (F := F) L) (Ic 0#32) (vec1 16 fun j => fold16 H (0 + j)) >>= k) Q) := by
  simp only [Args.on, k0_part18_eq_skeleton]
  unfold k0_part18_skel
  simp only [Prog.bind_assoc, Prog.pure_eq_ret, Prog.bind_ret]
  iintro ⟨A, B⟩ HK
  iapply (wp_group d L a.arg8 0 _ _ _ _ H R _ rfl) $$ B
  iintro B
  iterate 16 (iapply (wp_loadN d L a.arg7 _ _ H) $$ A; iintro A)
  iapply (wp_group d L a.arg8 16 _ _ _ _ H R _ (pay208_eq H)) $$ B
  iintro B
  iterate 2 (iapply (wp_loadN d L a.arg7 _ _ H) $$ A; iintro A)
  iapply HK
  isplitl [A]; · iexact A
  iexact B

theorem wp_part19 (H R : ℕ → BitVec 32) (k : _ → Prog (TpuEff nD τ sig (Elt F) Λ₀ (.scVector (cV L) (jV L))) β) :
    iprop(Holds (F := F) d L a.arg7 H ∗ Holds (F := F) d L a.arg8 (folded H R 32)) ⊢ iprop((iprop(Holds (F := F) d L a.arg7 H ∗ Holds (F := F) d L a.arg8 (folded H R 48))
        -∗ WP d L (k (k0_pay211 (F := F) (Ic 0#32) (vec1 16 fun j => H (48 + j)) (vec1 16 fun j => H (112 + j)) (vec1 16 fun j => H (176 + j))
          (vec1 16 fun j => H (240 + j)) (vec1 16 fun j => H (304 + j)))) Q)
      -∗ WP d L (a.on (k0_part19 (F := F) L) (Ic 0#32) (k0_pay209 (F := F) (Ic 0#32) (vec1 16 fun j => H (32 + j)) (vec1 16 fun j => H (96 + j))) >>= k) Q) := by
  simp only [Args.on, k0_part19_eq_skeleton]
  unfold k0_part19_skel
  simp only [Prog.bind_assoc, Prog.pure_eq_ret, Prog.bind_ret]
  iintro ⟨A, B⟩ HK
  iterate 14 (iapply (wp_loadN d L a.arg7 _ _ H) $$ A; iintro A)
  iapply (wp_group d L a.arg8 32 _ _ _ _ H R _ (pay210_eq H)) $$ B
  iintro B
  iterate 5 (iapply (wp_loadN d L a.arg7 _ _ H) $$ A; iintro A)
  iapply HK
  isplitl [A]; · iexact A
  iexact B

/-! ## The last rows -/

section
variable (hX : a.arg2.view.read (Elt F) fs = vec1 8000000 X) (hT : a.arg3.view.read (Elt F) gs = vec1 1000000 T) (h8 : ∀ r < 1000000, (T r).toNat < 8)
include hX hT

/-- The tail's sixteen rows fetched into the head of the buffers, and the first gathers. -/
theorem wp_part9 (v1 : BitVec 32) (hc : k0_cond1 L = 1#1) (H : ℕ → BitVec 32) (k : _ → Prog (TpuEff nD τ sig (Elt F) Λ₀ (.scVector (cV L) (jV L))) β) :
    iprop(After d L a q q' fs gs O W₀ H ∗ Idle d L (a.r 16).sem ∗ Idle d L (a.r 17).sem)
      ⊢ iprop((∀ X' T' v252, iprop(Loaded d L a q q' fs gs O W₀ (put 128 X' (shX X (row1 L)) 0) (put 16 T' (shT T (row1 L)) 0) H
          ∗ Idle d L (a.r 16).sem ∗ Idle d L (a.r 17).sem)
          -∗ WP d L (k ⟨v252, k0_pay177 I8, vec1 16 fun l => put 128 X' (shX X (row1 L)) 0 (8 * l + 0), vec1 16 fun l => put 128 X' (shX X (row1 L)) 0 (8 * l + 1),
              vec1 16 fun l => put 128 X' (shX X (row1 L)) 0 (8 * l + 2), k0_pay181 I8⟩) Q)
        -∗ WP d L (a.on (k0_part9 (F := F) L) v1 I8 hc >>= k) Q) := by
  simp only [Args.on, k0_part9_eq_skeleton]
  unfold k0_part9_skel After Loaded
  simp only [Prog.bind_assoc, Prog.pure_eq_ret, Prog.bind_ret]
  iintro ⟨⟨HS, HT, ⟨%X', H5⟩, ⟨%T', H6⟩, H7, HO⟩, HE, HF⟩ HK
  iapply (wp_fetchPart d L a.arg2 q fs (k0_off13 L) (k0_off13_inb L hc) a.arg5 ![0] inb_S32768_S128_0 (a.r 16).sem _ _ _ _ _ (View.dmaCredit_pos _ (by decide)) X' X hX) $$ [HS H5 HE HO]
  · isplitl [HS]; · iexact HS
    isplitl [H5]; · iexact H5
    isplitl [HE]; · iexact HE
    iexact HO
  iintro ⟨HS, H5, HE, HO⟩
  iapply (wp_fetchPart d L a.arg3 q' gs (k0_off14 L) (k0_off14_inb L hc) a.arg6 ![0] inb_S4096_S16_0 (a.r 17).sem _ _ _ _ _ (View.dmaCredit_pos _ (by decide)) T' T hT) $$ [HT H6 HF HO]
  · isplitl [HT]; · iexact HT
    isplitl [H6]; · iexact H6
    isplitl [HF]; · iexact HF
    iexact HO
  iintro ⟨HT, H6, HF, HO⟩
  rw [off13_at L, off14_at L]
  ihave H5 := (Holds_congr (F := F) d L a.arg5 (H := put 128 X' (fun j => X (8 * row1 L + j)) (![0] 0)) (H' := put 128 X' (shX X (row1 L)) 0) fun _ _ => rfl) $$ H5
  ihave H6 := (Holds_congr (F := F) d L a.arg6 (H := put 16 T' (fun j => T (row1 L + j)) (![0] 0)) (H' := put 16 T' (shT T (row1 L)) 0) fun _ _ => rfl) $$ H6
  iapply (wp_look d L a.arg5 (look0 0#32) _ (fun l hl => tail_look 0 l (by omega) hl) (C := k0_chk73 L (vec1 16 (look0 0#32))) _ (fun h _ => h)
    (fun hw => k0_idx73_inb L _ hw hc) _ (put 128 X' (shX X (row1 L)) 0)) $$ H5
  iintro H5
  iapply (wp_look d L a.arg5 (look0 1#32) _ (fun l hl => tail_look 1 l (by omega) hl) (C := k0_chk74 L (vec1 16 (look0 1#32))) _ (fun h _ => h)
    (fun hw => k0_idx74_inb L _ hw hc) _ (put 128 X' (shX X (row1 L)) 0)) $$ H5
  iintro H5
  iapply (wp_look d L a.arg5 (look0 2#32) _ (fun l hl => tail_look 2 l (by omega) hl) (C := k0_chk75 L (vec1 16 (look0 2#32))) _ (fun h _ => h)
    (fun hw => k0_idx75_inb L _ hw hc) _ (put 128 X' (shX X (row1 L)) 0)) $$ H5
  iintro H5
  iapply HK
  isplitr [HE HF]
  · isplitl [HS]; · iexact HS
    isplitl [HT]; · iexact HT
    isplitl [H5]; · iexact H5
    isplitl [H6]; · iexact H6
    isplitl [H7]; · iexact H7
    iexact HO
  isplitl [HE]; · iexact HE
  iexact HF

include h8
/-- The last loop, the tail, and the first group of sixteen bins. -/
theorem wp_part17 (v1 : BitVec 32) (X' : ℕ → F .f32) (T' : ℕ → BitVec 32) (k : _ → Prog (TpuEff nD τ sig (Elt F) Λ₀ (.scVector (cV L) (jV L))) β) :
    iprop(Loaded d L a q q' fs gs O W₀ (put 20608 X' (shX X (row0 L + 28672)) 0) (put 2576 T' (shT T (row0 L + 28672)) 0) (own L X T 28672)
        ∗ Idle d L (a.r 16).sem ∗ Idle d L (a.r 17).sem)
      ⊢ iprop((iprop(After d L a q q' fs gs O W₀ (table L X T) ∗ Idle d L (a.r 16).sem ∗ Idle d L (a.r 17).sem)
          -∗ WP d L (k (vec1 16 fun j => fold16 (table L X T) (0 + j))) Q)
        -∗ WP d L (a.on (k0_part17 (F := F) L) v1 I64 I8 (Ic 0#32) (Ic 1#32) (Ic 2#32) (Ic 3#32) (Ic 4#32) (Ic 5#32) (Ic 6#32) (Ic 7#32) (Ic 1#32) (Ic 0#32) 0#32 >>= k) Q) := by
  rw [← pay207_eq (F := F) (table L X T)]
  simp only [Args.on, k0_part17_eq_skeleton]
  unfold k0_part17_skel
  simp only [Prog.bind_assoc, Prog.pure_eq_ret, Prog.bind_ret]
  iintro ⟨HA, HI⟩ HK
  iapply (wp_loop d L a h8 28672 161 (by decide) (by omega) (by omega) _ (by decide) _ _ 0#32
    _ (fun t t' acc h => by obtain ⟨t, ht⟩ := t; obtain ⟨t', ht'⟩ := t'; obtain rfl : t = t' := h; rfl)
    (put 20608 X' (shX X (row0 L + 28672)) 0) (put 2576 T' (shT T (row0 L + 28672)) 0)
    (fun j hj => if_pos ⟨by omega, by omega⟩) (fun j hj => if_pos ⟨by omega, by omega⟩)) $$ HA
  iintro %acc HA
  by_cases hc : k0_cond1 L = 1#1
  · rw [dif_pos hc]
    simp only [Prog.bind_assoc, Prog.pure_eq_ret, Prog.bind_ret]
    iapply (wp_part9 (O := O) (W₀ := W₀) (q := q) (q' := q') (fs := fs) (gs := gs) d L a hX hT v1 hc) $$ [HA HI]
    · isplitl [HA]; · iexact HA
      iexact HI
    iintro %Y %U %v252 ⟨HA, HI⟩
    unfold Loaded
    icases HA with ⟨HS, HT, H5, H6, H7, HO⟩
    iapply (wp_look d L a.arg5 (look0 3#32) _ (fun l hl => tail_look 3 l (by omega) hl) (C := k0_chk76 L (vec1 16 (look0 3#32))) _ (fun h _ => h)
      (fun hw => k0_idx76_inb L _ hw hc) _ (put 128 Y (shX X (row1 L)) 0)) $$ H5
    iintro H5
    iapply (wp_look d L a.arg5 (look0 4#32) _ (fun l hl => tail_look 4 l (by omega) hl) (C := k0_chk77 L (vec1 16 (look0 4#32))) _ (fun h _ => h)
      (fun hw => k0_idx77_inb L _ hw hc) _ (put 128 Y (shX X (row1 L)) 0)) $$ H5
    iintro H5
    iapply (wp_look d L a.arg5 (look0 5#32) _ (fun l hl => tail_look 5 l (by omega) hl) (C := k0_chk78 L (vec1 16 (look0 5#32))) _ (fun h _ => h)
      (fun hw => k0_idx78_inb L _ hw hc) _ (put 128 Y (shX X (row1 L)) 0)) $$ H5
    iintro H5
    iapply (wp_look d L a.arg5 (look0 6#32) _ (fun l hl => tail_look 6 l (by omega) hl) (C := k0_chk79 L (vec1 16 (look0 6#32))) _ (fun h _ => h)
      (fun hw => k0_idx79_inb L _ hw hc) _ (put 128 Y (shX X (row1 L)) 0)) $$ H5
    iintro H5
    iapply (wp_look d L a.arg5 (look0 7#32) _ (fun l hl => tail_look 7 l (by omega) hl) (C := k0_chk80 L (vec1 16 (look0 7#32))) _ (fun h _ => h)
      (fun hw => k0_idx80_inb L _ hw hc) _ (put 128 Y (shX X (row1 L)) 0)) $$ H5
    iintro H5
    iapply (wp_loadAt d L a.arg6 (k0_off15_inb L hc) _ (put 16 U (shT T (row1 L)) 0) 0 (by rw [k0_off15_eq]; rfl)) $$ H6
    iintro H6
    iapply (wp_mark d L a.arg7
      (fun l => put 16 U (shT T (row1 L)) 0 (0 + l) * 8#32 + (pred8 fun j => put 128 Y (shX X (row1 L)) 0 (8 * l + j)) + BitVec.ofNat 32 l * 64#32)
      (fun l => 64 * l + bin (put 128 Y (shX X (row1 L)) 0) (put 16 U (shT T (row1 L)) 0) l)
      (fun l hl => by
        have hr : row1 L + 16 ≤ 1000000 := by
          have := k0_off14_inb L hc 0
          rwa [off14_at L] at this
        have h : put 16 U (shT T (row1 L)) 0 l = T (row1 L + l) := if_pos ⟨by omega, by omega⟩
        simp only [Nat.zero_add]
        exact slot_toNat _ _ l l (by rw [h]; exact h8 _ (by omega)) hl)
      (C := k0_chk81 L (vec1 16 fun l => put 16 U (shT T (row1 L)) 0 (0 + l) * 8#32 + (pred8 fun j => put 128 Y (shX X (row1 L)) 0 (8 * l + j)) + BitVec.ofNat 32 l * 64#32))
      _ (fun h _ => h) (fun hw => k0_idx81_inb L _ hw hc) _ (own L X T (28672 + 16 * 161))) $$ H7
    iintro H7
    rw [show (fun x => own L X T (28672 + 16 * 161) x + ∑ l ∈ Finset.range 16, ind (64 * l + bin (put 128 Y (shX X (row1 L)) 0) (put 16 U (shT T (row1 L)) 0) l) x)
      = table L X T from by funext x; unfold table; rw [if_pos hc, tail_tally]]
    iterate 16 (iapply (wp_loadN d L a.arg7 _ _ (table L X T)) $$ H7; iintro H7)
    iapply HK
    isplitr [HI]
    · unfold After
      isplitl [HS]; · iexact HS
      isplitl [HT]; · iexact HT
      isplitl [H5]; · iexists _; iexact H5
      isplitl [H6]; · iexists _; iexact H6
      isplitl [H7]; · iexact H7
      iexact HO
    iexact HI
  · rw [dif_neg hc]
    simp only [Prog.bind_assoc, Prog.pure_eq_ret, Prog.bind_ret]
    have e : own L X T (28672 + 16 * 161) = table L X T := by
      funext x; unfold table; rw [if_neg hc]; exact (add_zero _).symm
    rw [e]
    unfold After
    icases HA with ⟨HS, HT, H5, H6, H7, HO⟩
    iterate 16 (iapply (wp_loadN d L a.arg7 _ _ (table L X T)) $$ H7; iintro H7)
    iapply HK
    isplitr [HI]
    · isplitl [HS]; · iexact HS
      isplitl [HT]; · iexact HT
      isplitl [H5]; · iexact H5
      isplitl [H6]; · iexact H6
      isplitl [H7]; · iexact H7
      iexact HO
    iexact HI

end

end Cert.Proof.Ideal

end
-- ==== Proof.IdealKernel.lean ====
/- The whole of one tile: from the scores and the targets to its row of the counts. -/
module

public import proofs.«01_k».proof.Proof.IdealFold

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (d : Dev nD) (L : grid0.Coords)
variable {β : Type} {Q : β → sProp (MT nD τ sig (HIx 1) (Elt F) ℕ UU ℕ)}

variable (a : Args) {O : CellTallies nD τ sig (HIx 1)} {W₀ : Waits sig (HIx 1)}
variable {q q' : PosShare TreeShare} {fs : Buf (Elt F) (a.arg2.view.loc (V d (cV L) (jV L)))} {gs : Buf (Elt F) (a.arg3.view.loc (V d (cV L) (jV L)))}
variable {X : ℕ → F .f32} {T : ℕ → BitVec 32}

/-- The tile's row of the counts' array. -/
abbrev rowOut : Memref sig .scVector .hbm S64 .i32 :=
  (a.arg4.slice (Rect.unit (s := S32x64) (k0_off16 L) S1x64.size (k0_off16_inb L)) (fun _ => rfl)).squeeze S64 squeezes_S1x64_S64

/-- The tile's nineteen transfer semaphores, all at zero. -/
def Idles : sProp 𝕄 :=
  iprop(Idle d L (a.r 0).sem ∗ Idle d L (a.r 1).sem ∗ Idle d L (a.r 2).sem ∗ Idle d L (a.r 3).sem ∗ Idle d L (a.r 4).sem ∗ Idle d L (a.r 5).sem ∗ Idle d L (a.r 6).sem ∗ Idle d L (a.r 7).sem ∗ Idle d L (a.r 8).sem ∗ Idle d L (a.r 9).sem ∗ Idle d L (a.r 10).sem ∗ Idle d L (a.r 11).sem ∗ Idle d L (a.r 12).sem ∗ Idle d L (a.r 13).sem ∗ Idle d L (a.r 14).sem ∗ Idle d L (a.r 15).sem ∗ Idle d L (a.r 16).sem ∗ Idle d L (a.r 17).sem ∗ Idle d L (a.r 18).sem)

/-- The tile's four buffers at anything. -/
def Scratch : sProp 𝕄 :=
  iprop((∃ X', Holds (F := F) d L a.arg5 X') ∗ (∃ T', Holds (F := F) d L a.arg6 T') ∗ (∃ H, Holds (F := F) d L a.arg7 H) ∗ (∃ R, Holds (F := F) d L a.arg8 R))

section
variable (hX : a.arg2.view.read (Elt F) fs = vec1 8000000 X) (hT : a.arg3.view.read (Elt F) gs = vec1 1000000 T) (h8 : ∀ r < 1000000, (T r).toNat < 8)
include hX hT h8

omit hX hT h8 in
/-- The row sent. -/
theorem wp_send (fd : Buf (Elt F) ((rowOut L a).view.loc (V d (cV L) (jV L)))) (s : DmaSem sig) (R : ℕ → BitVec 32) (e1) (e2) (e3) (e4) (e5)
    (k : PUnit → Prog (TpuEff nD τ sig (Elt F) Λ₀ (.scVector (cV L) (jV L))) β) :
    iprop(Holds (F := F) d L a.arg8 R ∗ ((rowOut L a).view.loc (V d (cV L) (jV L)) ↦[(rowOut L a).view.set]{fullShare} fd) ∗ Idle (F := F) d L s ∗ Owing d L O W₀)
      ⊢ iprop((iprop(Holds (F := F) d L a.arg8 R ∗ ((rowOut L a).view.loc (V d (cV L) (jV L)) ↦[(rowOut L a).view.set]{fullShare}
            (rowOut L a).view.write (Elt F) fd (vec1 64 R : (Sh 64).Idx → BitVec 32) Finset.univ) ∗ Idle (F := F) d L s ∗ Owing d L O W₀) -∗ WP d L (k ⟨⟩) Q)
        -∗ WP d L (Prog.lift (.enqueueDma a.arg8 (.here (rowOut L a)) (.dma s) e1 e2 e3)
          >>= fun _ => Prog.lift (.waitDma2 s a.arg8 (rowOut L a) e4 e5) >>= k) Q) := by
  unfold Holds
  iintro ⟨⟨%f, %hf, HR⟩, HD, HI, HO⟩ HK
  iapply (wp_start d L a.arg8 (rowOut L a) s e1 e2 e3 (View.dmaCredit_pos _ (by decide)) (rowOut L a).view.set (Finset.Subset.refl _) f fd) $$ [HR HD HI]
  · isplitl [HR]; · iexact HR
    isplitl [HD]; · iexact HD
    iexact HI
  iintro HF
  iapply (wp_wait d L a.arg8 (rowOut L a) s e4 e5) $$ [HF HO]
  · isplitl [HF]; · iexact HF
    iexact HO
  iintro ⟨⟨HD, HS⟩, HR, HI, HO⟩
  rw [hf]
  iapply HK
  isplitl [HS HR]
  · iexists f
    isplitr; · ipureintro; exact hf
    iapply (pointsTo_split_subset (q := fullShare) (f := f) (S := Finset.univ) (Finset.subset_univ a.arg8.view.set)).2
    isplitl [HS]; · iexact HS
    iexact HR
  isplitl [HD]; · iexact HD
  isplitl [HI]; · iexact HI
  iexact HO

omit hX hT h8 in
/-- The tile's row: the table folded. -/
abbrev rowOf (X : ℕ → F .f32) (T : ℕ → BitVec 32) : ℕ → BitVec 32 := fold16 (table L X T)

/-- The tile, from its operands to its row of the counts. -/
theorem wp_tile (fd : Buf (Elt F) ((rowOut L a).view.loc (V d (cV L) (jV L)))) :
    iprop(Source d L a.arg2 q fs ∗ Source d L a.arg3 q' gs ∗ ((rowOut L a).view.loc (V d (cV L) (jV L)) ↦[(rowOut L a).view.set]{fullShare} fd)
        ∗ Scratch (F := F) d L a ∗ Idles (F := F) d L a ∗ Owing d L O W₀)
      ⊢ WP d L (a.on (cc0_sc_kernel (F := F) L)) fun _ =>
        iprop(Source d L a.arg2 q fs ∗ Source d L a.arg3 q' gs
          ∗ ((rowOut L a).view.loc (V d (cV L) (jV L)) ↦[(rowOut L a).view.set]{fullShare}
              (rowOut L a).view.write (Elt F) fd (vec1 64 (rowOf L X T) : (Sh 64).Idx → BitVec 32) Finset.univ)
          ∗ Scratch (F := F) d L a ∗ Idles (F := F) d L a ∗ Owing d L O W₀) := by
  simp only [Args.on, cc0_sc_kernel_eq_skeleton]
  unfold cc0_sc_kernel_skel
  simp only [k0_part20_eq_skeleton]
  unfold k0_part20_skel
  simp only [Prog.bind_assoc, Prog.pure_eq_ret, Prog.bind_ret]
  unfold Scratch Idles
  iintro ⟨HS, HT, HD, ⟨⟨%X', H5⟩, ⟨%T', H6⟩, ⟨%H, H7⟩, ⟨%R, H8⟩⟩, ⟨I0, I1, I2, I3, I4, I5, I6, I7, I8, I9, I10, I11, I12, I13, I14, I15, I16, I17, I18⟩, HO⟩
  iapply (wp_part10 d L a H) $$ H7
  iintro %v1 H7
  iapply (wp_part11 d L a H) $$ H7
  iintro H7
  iapply (wp_part12 d L a H) $$ H7
  iintro H7
  iapply (wp_part13 (O := O) (W₀ := W₀) (q := q) (q' := q') (fs := fs) (gs := gs) d L a hX v1 H) $$ [HS HT H5 H6 H7 HO I0 I1]
  · isplitr [I0 I1]
    · unfold After
      isplitl [HS]; · iexact HS
      isplitl [HT]; · iexact HT
      isplitl [H5]; · iexists _; iexact H5
      isplitl [H6]; · iexists _; iexact H6
      isplitl [H7]; · iexact H7
      iexact HO
    isplitl [I0]; · iexact I0
    iexact I1
  iintro %v81 ⟨HS, H5, H7, HO, I0, HC⟩
  iapply (wp_part14 (O := O) (W₀ := W₀) (q := q) (q' := q') (fs := fs) (gs := gs) d L a hX hT h8 v81) $$ [HS H5 H7 HO HC I2 I3 I4 I5]
  · isplitr [I2 I3 I4 I5]
    · isplitl [HS]; · iexact HS
      isplitl [H5]; · iexact H5
      isplitl [H7]; · iexact H7
      isplitl [HO]; · iexact HO
      iexact HC
    isplitl [I2 I3]
    · isplitl [I2]; · iexact I2
      iexact I3
    isplitl [I4]; · iexact I4
    iexact I5
  iintro ⟨HA, I1, ⟨I2, I3⟩, I4, I5⟩
  iapply (wp_part15 (O := O) (W₀ := W₀) (q := q) (q' := q') (fs := fs) (gs := gs) d L a hX hT h8 v81) $$ [HA I6 I7 I8 I9 I10 I11]
  · isplitl [HA]; · iexact HA
    isplitl [I6 I7]
    · isplitl [I6]; · iexact I6
      iexact I7
    isplitl [I8 I9]
    · isplitl [I8]; · iexact I8
      iexact I9
    isplitl [I10]; · iexact I10
    iexact I11
  iintro ⟨HA, ⟨I6, I7⟩, ⟨I8, I9⟩, I10, I11⟩
  iapply (wp_part16 (O := O) (W₀ := W₀) (q := q) (q' := q') (fs := fs) (gs := gs) d L a hX hT h8 v81) $$ [HA I12 I13 I14 I15]
  · isplitl [HA]; · iexact HA
    isplitl [I12 I13]
    · isplitl [I12]; · iexact I12
      iexact I13
    isplitl [I14]; · iexact I14
    iexact I15
  iintro %Y %U ⟨HA, ⟨I12, I13⟩, I14, I15⟩
  iapply (wp_part17 (O := O) (W₀ := W₀) (q := q) (q' := q') (fs := fs) (gs := gs) d L a hX hT h8 v1 Y U) $$ [HA I16 I17]
  · isplitl [HA]; · iexact HA
    isplitl [I16]; · iexact I16
    iexact I17
  unfold After
  iintro ⟨⟨HS, HT, H5, H6, H7, HO⟩, I16, I17⟩
  ihave H8 := (Holds_congr (F := F) d L a.arg8 (H := R) (H' := folded (table L X T) R 0) fun x _ => (if_neg (Nat.not_lt_zero x)).symm) $$ H8
  iapply (wp_part18 d L a (table L X T) R) $$ [H7 H8]
  · isplitl [H7]; · iexact H7
    iexact H8
  iintro ⟨H7, H8⟩
  iapply (wp_part19 d L a (table L X T) R) $$ [H7 H8]
  · isplitl [H7]; · iexact H7
    iexact H8
  iintro ⟨H7, H8⟩
  iterate 11 (iapply (wp_loadN d L a.arg7 _ _ (table L X T)) $$ H7; iintro H7)
  iapply (wp_group d L a.arg8 48 _ _ _ _ (table L X T) R _ (pay212_eq (table L X T))) $$ H8
  iintro H8
  ihave H8 := (Holds_congr (F := F) d L a.arg8 (H := folded (table L X T) R 64) (H' := rowOf L X T) fun x hx => if_pos hx) $$ H8
  iapply (wp_send (O := O) (W₀ := W₀) d L a fd (a.r 18).sem (rowOf L X T)) $$ [H8 HD I18 HO]
  · isplitl [H8]; · iexact H8
    isplitl [HD]; · iexact HD
    isplitl [I18]; · iexact I18
    iexact HO
  iintro ⟨H8, HD, I18, HO⟩
  iapply (le_wp_ret frame (wpE (defs₀ (F := F)) 𝒱₀ (V d (cV L) (jV L)) none) Set.univ)
  isplitl [HS]; · iexact HS
  isplitl [HT]; · iexact HT
  isplitl [HD]; · iexact HD
  isplitl [H5 H6 H7 H8]
  · isplitl [H5]; · iexact H5
    isplitl [H6]; · iexact H6
    isplitl [H7]; · iexists _; iexact H7
    iexists _; iexact H8
  isplitr [HO]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [I12]; · iexact I12
    isplitl [I13]; · iexact I13
    isplitl [I14]; · iexact I14
    isplitl [I15]; · iexact I15
    isplitl [I16]; · iexact I16
    isplitl [I17]; · iexact I17
    iexact I18
  iexact HO

end

end Cert.Proof.Ideal

end
-- ==== Proof.IdealTask.lean ====
/- A tile's task as the launch hands it out: its own buffers and semaphores, its share of the operands, its row of the counts. -/
module

public import proofs.«01_k».proof.Proof.IdealKernel
public import Idealize.ShloMosaic.Lib.ShareLeaves

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The tile's operands -/

/-- The tile's semaphores, by number. -/
def sems : Fin 19 → DmaSems sig S_ :=
  ![cc0_scoped0, cc0_scoped1, cc0_scoped2, cc0_scoped3, cc0_scoped4, cc0_scoped5, cc0_scoped6, cc0_scoped7, cc0_scoped8, cc0_scoped9, cc0_scoped10, cc0_scoped11, cc0_scoped12, cc0_scoped13, cc0_scoped14, cc0_scoped15, cc0_scoped16, cc0_scoped17, cc0_scoped18]

/-- The tile's operands: the arrays, its four buffers, its semaphores. -/
def tileArgs : Args where
  arg2 := Memref.whole main_v0_scv
  h2 := Memref.isWhole_whole _
  arg3 := Memref.whole main_arg1_scv
  h3 := Memref.isWhole_whole _
  arg4 := Memref.whole main_v1_scv
  h4 := Memref.isWhole_whole _
  arg5 := Memref.whole cc0_scratch0
  h5 := Memref.isWhole_whole _
  arg6 := Memref.whole cc0_scratch1
  h6 := Memref.isWhole_whole _
  arg7 := Memref.whole cc0_scratch2
  h7 := Memref.isWhole_whole _
  arg8 := Memref.whole cc0_scratch3
  h8 := Memref.isWhole_whole _
  r := sems

/-- The grid's coordinates from a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

section Task

variable [FloatOps F] [Named F] (d : Dev nD) (L : grid0.Coords)

/-- A tile's body is the kernel at its operands. -/
theorem defs₀_vector (c : Fin τ.nSC) (s : Fin τ.nSub) :
    defs₀ (F := F) (.scVector c s) 0 ()
      = SparseCore.onTile hcore0 hsub0 (fun c s => tileArgs.on (cc0_sc_kernel (F := F) (coordsV c s))) ⟨⟩ c s := rfl

/-- One of the tile's semaphore cells. -/
abbrev cell (k : Fin 19) : GSem nD τ sig := (V d (cV L) (jV L), .dma (sems k).sem)

theorem sems_inj : ∀ k k' : Fin 19, (sems k).sem = (sems k').sem → k = k' := by decide

def cellEmb : Fin 19 ↪ GSem nD τ sig := ⟨cell d L, fun k k' h => sems_inj k k' (by
  have := congrArg Prod.snd h
  exact SemLoc.dma.inj this)⟩

theorem sems_scoped : ∀ k : Fin 19, (SemLoc.dma (sems k).sem : SemLoc sig).isScoped .scVector = true := by decide

/-- The tile's own semaphores are its nineteen and the rest. -/
theorem ownSems0_V :
    (ownSems0 (V d (cV L) (jV L)) : sProp 𝕄)
      = iprop(Idles (F := F) d L tileArgs ∗ bigSep (ownCells (V d (cV L) (jV L)) \ Finset.univ.map (cellEmb d L)) fun g => semVal g 0) := by
  unfold SparseCore.Cfg.ownSems0
  rw [SparseCore.bigSep_sdiff_split' (t := Finset.univ.map (cellEmb d L)) (fun g hg => by
    obtain ⟨k, -, rfl⟩ := Finset.mem_map.mp hg
    exact (mem_ownCells (g := cell d L k)).mpr ⟨rfl, sems_scoped k⟩), bigSep_map,
    bigSep_univ_eq_bigSepL [0, 1, 2, 3, 4, 5, 6, 7, 8, 9, 10, 11, 12, 13, 14, 15, 16, 17, 18] (by decide) (by decide)]
  rfl

/-- The tile's own buffers are its four, at anything, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have own0 : ((Proc.scVector (cV L) (jV L)).devRef cc0_scratch0 : DevRef τ sig) ∈ ownRefs (τ := τ) (.scVector (cV L) (jV L)) :=
    SparseCore.Cfg.mem_ownRefs_of_owner (p := Proc.scVector (cV L) (jV L)) rfl
  have own1 : ((Proc.scVector (cV L) (jV L)).devRef cc0_scratch1 : DevRef τ sig) ∈ ownRefs (τ := τ) (.scVector (cV L) (jV L)) :=
    SparseCore.Cfg.mem_ownRefs_of_owner (p := Proc.scVector (cV L) (jV L)) rfl
  have own2 : ((Proc.scVector (cV L) (jV L)).devRef cc0_scratch2 : DevRef τ sig) ∈ ownRefs (τ := τ) (.scVector (cV L) (jV L)) :=
    SparseCore.Cfg.mem_ownRefs_of_owner (p := Proc.scVector (cV L) (jV L)) rfl
  have own3 : ((Proc.scVector (cV L) (jV L)).devRef cc0_scratch3 : DevRef τ sig) ∈ ownRefs (τ := τ) (.scVector (cV L) (jV L)) :=
    SparseCore.Cfg.mem_ownRefs_of_owner (p := Proc.scVector (cV L) (jV L)) rfl
  have ne : ∀ b b' : Ref sig .scVector, b ≠ b' → ((Proc.scVector (cV L) (jV L)).devRef b : DevRef τ sig) ≠ (Proc.scVector (cV L) (jV L)).devRef b' :=
    fun b b' h e => h (Proc.devRef_injective _ e)
  unfold SparseCore.Cfg.ownBufs
  refine (SparseCore.bigSep_erase' own0).trans ?_
  rw [SparseCore.bigSep_erase' (Finset.mem_erase.mpr ⟨ne cc0_scratch1 cc0_scratch0 (by decide), own1⟩),
    SparseCore.bigSep_erase' (Finset.mem_erase.mpr ⟨ne cc0_scratch2 cc0_scratch1 (by decide),
      Finset.mem_erase.mpr ⟨ne cc0_scratch2 cc0_scratch0 (by decide), own2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), own3⟩⟩⟩)]

/-- A flat buffer at anything holds some elements. -/
theorem holds_some {n : ℕ} {e : EltTy} (hn : 0 < n) (m : Memref sig .scVector .vmem (Sh n) e) :
    iprop(∃ f, m.view.loc (V d (cV L) (jV L)) ↦{fullShare} f) ⊢ (iprop(∃ H, Holds (F := F) d L m H) : sProp 𝕄) := by
  iintro ⟨%f, H⟩
  iexists (nat1 hn (m.view.read (Elt F) f))
  unfold Holds
  iexists f
  isplitr
  · ipureintro; exact (vec1_nat1 hn _).symm
  · iexact H

theorem some_holds {n : ℕ} {e : EltTy} (m : Memref sig .scVector .vmem (Sh n) e) :
    iprop(∃ H, Holds (F := F) d L m H) ⊢ (iprop(∃ f, m.view.loc (V d (cV L) (jV L)) ↦{fullShare} f) : sProp 𝕄) := by
  unfold Holds
  iintro ⟨%H, %f, -, H⟩
  iexists f; iexact H

end Task

end Cert.Proof.Ideal

end
-- ==== Proof.IdealLaunch.lean ====
/- What the launch hands a tile and takes back, and that the kernel's task keeps to it: the counts' rows are the tiles' rows. -/
module

public import proofs.«01_k».proof.Proof.IdealTask

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! ## The arrays -/

abbrev argLoc (d : Dev nD) : Loc nD τ sig := (SparseCore.T d).loc main_arg0
abbrev tgtLoc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1

/-- The scores and the targets by number. -/
def scores {d : Dev nD} (A : Buf (Elt F) (v0Loc d)) : ℕ → F .f32 := nat1 (n := 8000000) (by decide) A
def targets {d : Dev nD} (B : Buf (Elt F) (tgtLoc d)) : ℕ → BitVec 32 := nat1 (n := 1000000) (by decide) B

/-- The tile that makes a row of the counts. -/
def rowTile (w : Fin 32) : grid0.Coords := coordsV ⟨w.val % 2, Nat.mod_lt _ (by decide)⟩ ⟨w.val / 2, show w.val / 2 < 16 by omega⟩

/-- The counts: each tile's row. -/
def counts {d : Dev nD} (A : Buf (Elt F) (v0Loc d)) (B : Buf (Elt F) (tgtLoc d)) : S32x64.Idx → BitVec 32 :=
  fun x => rowOf (F := F) (rowTile (x 0)) (scores A) (targets B) (x 1).val

/-! ## The rows -/

section Rows

variable (d : Dev nD) (L : grid0.Coords)

/-- The elements of a tile's row. -/
abbrev rowSet : Finset S32x64.Idx := (rowOut L tileArgs).view.set

theorem row_emb (j : S64.Idx) : ∃ y : S32x64.Idx, (rowOut L tileArgs).view.emb j = y ∧ (y 0).val = wid L ∧ (y 1).val = (j 0).val := by
  refine ⟨_, rfl, ?_, ?_⟩
  · show ((Rect.unit (s := S32x64) (k0_off16 L) S1x64.size (k0_off16_inb L)).emb (Shape.reshapeEquiv squeezes_S1x64_S64.numel_eq j) 0).val = _
    rw [Rect.emb_apply, Shape.reshapeEquiv_cons_one]
    show k0_off16 L 0 + 1 * 0 = _
    rw [k0_off16_eq]; rfl
  · show ((Rect.unit (s := S32x64) (k0_off16 L) S1x64.size (k0_off16_inb L)).emb (Shape.reshapeEquiv squeezes_S1x64_S64.numel_eq j) 1).val = _
    rw [Rect.emb_apply, Shape.reshapeEquiv_cons_one]
    show k0_off16 L 1 + 1 * (j 0).val = _
    rw [k0_off16_eq]; show 0 + 1 * (j 0).val = _; omega

theorem mem_row {x : S32x64.Idx} : x ∈ rowSet L ↔ (x 0).val = wid L := by
  constructor
  · intro h
    obtain ⟨j, -, rfl⟩ := Finset.mem_map.mp h
    obtain ⟨y, e, h0, -⟩ := row_emb L j
    exact (congrArg (fun z : S32x64.Idx => (z 0).val) e).trans h0
  · intro h
    obtain ⟨y, e, h0, h1⟩ := row_emb L (fun a => match a with | ⟨0, _⟩ => (x 1 : Fin 64))
    refine Finset.mem_map.mpr ⟨_, Finset.mem_univ _, e.trans ?_⟩
    funext a
    match a with
    | ⟨0, _⟩ => exact Fin.ext (h0.trans h.symm)
    | ⟨1, _⟩ => exact Fin.ext h1

theorem rowTile_of (w : Fin 32) (h : w.val = wid L) : rowTile w = L := by
  have h0 : (L 0).val < 2 := (L 0).isLt
  have hw : wid L = 2 * (L 1).val + (L 0).val := rfl
  funext a
  match a with
  | ⟨0, _⟩ => exact Fin.ext (show w.val % 2 = (L 0).val by omega)
  | ⟨1, _⟩ => exact Fin.ext (show w.val / 2 = (L 1).val by omega)

/-- The row sent is the row of the counts. -/
theorem row_sent (A : Buf (Elt F) (v0Loc d)) (B : Buf (Elt F) (tgtLoc d)) (C : Buf (Elt F) (v1Loc d)) :
    ∀ x ∈ rowSet L, (rowOut L tileArgs).view.write (Elt F) C (vec1 64 (rowOf (F := F) L (scores A) (targets B)) : (Sh 64).Idx → BitVec 32) Finset.univ x
      = counts A B x := by
  intro x hx
  obtain ⟨j, -, rfl⟩ := Finset.mem_map.mp hx
  obtain ⟨y, e, h0, h1⟩ := row_emb L j
  refine (View.write_emb_of_mem (v := (rowOut L tileArgs).view) C _ (Finset.mem_univ j)).trans ?_
  refine Eq.trans ?_ (congrArg (counts A B) e).symm
  unfold counts
  rw [rowTile_of L _ h0, h1]
  rfl

end Rows

/-! ## What a tile is handed, and brings back -/

section Shares

variable (d : Dev nD) (L : grid0.Coords)
variable (A : (d : Dev nD) → Buf (Elt F) (v0Loc d)) (B : (d : Dev nD) → Buf (Elt F) (tgtLoc d)) (C : (d : Dev nD) → Buf (Elt F) (v1Loc d))

/-- A tile's share of the operands. -/
def shareOf (c : Fin 2) (i : Fin 16) : PosShare TreeShare := ShareLeaves.leaf 4 (ShareLeaves.leaf 1 fullShare c) i

/-- A tile's share of the operands, with its row of the counts at anything given. -/
def taskRes (c : Fin 2) (i : Fin 16) (C : Buf (Elt F) (v1Loc d)) : sProp 𝕄 :=
  iprop((v0Loc d ↦{shareOf c i} A d) ∗ (tgtLoc d ↦{shareOf c i} B d) ∗ (v1Loc d ↦[rowSet (coordsV c i)]{fullShare} C))

instance taskRes_storable (c : Fin 2) (i : Fin 16) (C : Buf (Elt F) (v1Loc d)) : BI.Storable (upEmb : UEmb _ 𝕄) (taskRes d A B c i C) := by
  unfold taskRes; infer_instance

/-- The one call: each tile its share and its row, the row at the counts on the way back. -/
def P : (K (F := F)).Pay (nD := nD) (Val := Elt F) (Name := ℕ) (U := UU) where
  st := fun q d c => match q with | 0 => bigSep Finset.univ fun i : Fin 16 => taskRes d A B (Fin.cast nCore_zero c) i (C d)
  dn := fun q d c => match q with | 0 => bigSep Finset.univ fun i : Fin 16 => taskRes d A B (Fin.cast nCore_zero c) i (counts (A d) (B d))
  go := fun q d c i => match q with | 0 => taskRes d A B (Fin.cast nCore_zero c) (Fin.cast nSub_zero i) (C d)
  td := fun q d c i => match q with | 0 => taskRes d A B (Fin.cast nCore_zero c) (Fin.cast nSub_zero i) (counts (A d) (B d))
  x := fun _ _ => iprop(emp)

instance P_storable : (P (F := F) A B C).IsStorable where
  st q d c := match q with
    | 0 => (inferInstance : BI.Storable (upEmb : UEmb _ 𝕄) (bigSep Finset.univ fun i : Fin 16 => taskRes d A B (Fin.cast nCore_zero c) i (C d)))
  dn q d c := match q with
    | 0 => (inferInstance : BI.Storable (upEmb : UEmb _ 𝕄) (bigSep Finset.univ fun i : Fin 16 => taskRes d A B (Fin.cast nCore_zero c) i (counts (A d) (B d))))
  go q d c i := match q with
    | 0 => (inferInstance : BI.Storable (upEmb : UEmb _ 𝕄) (taskRes d A B (Fin.cast nCore_zero c) (Fin.cast nSub_zero i) (C d)))
  td q d c i := match q with
    | 0 => (inferInstance : BI.Storable (upEmb : UEmb _ 𝕄) (taskRes d A B (Fin.cast nCore_zero c) (Fin.cast nSub_zero i) (counts (A d) (B d))))

theorem vecSplit : (K (F := F)).VecSplit' (P A B C) 0 := by
  intro d c
  show (bigSep Finset.univ fun i : Fin 16 => taskRes d A B (Fin.cast nCore_zero c) i (C d)) ⊢ |={Set.univ}=> iprop(
      (bigSep Finset.univ fun i : Fin 16 => taskRes d A B (Fin.cast nCore_zero c) i (C d))
      ∗ ((bigSep Finset.univ fun i : Fin 16 => taskRes d A B (Fin.cast nCore_zero c) i (counts (A d) (B d)))
          -∗ (bigSep Finset.univ fun i : Fin 16 => taskRes d A B (Fin.cast nCore_zero c) i (counts (A d) (B d)))))
  iintro H; imodintro
  isplitl [H]; · iexact H
  iintro H; iexact H

end Shares

/-! ## The task -/

section Task

variable (d : Dev nD) (c : Fin 2) (i : Fin 16)
variable (A : (d : Dev nD) → Buf (Elt F) (v0Loc d)) (B : (d : Dev nD) → Buf (Elt F) (tgtLoc d)) (C : (d : Dev nD) → Buf (Elt F) (v1Loc d))

theorem scratch_of (L : grid0.Coords) :
    iprop((∃ f, (V d (cV L) (jV L)).loc cc0_scratch0 ↦{fullShare} f) ∗ (∃ f, (V d (cV L) (jV L)).loc cc0_scratch1 ↦{fullShare} f)
      ∗ (∃ f, (V d (cV L) (jV L)).loc cc0_scratch2 ↦{fullShare} f) ∗ (∃ f, (V d (cV L) (jV L)).loc cc0_scratch3 ↦{fullShare} f))
      ⊢ (Scratch (F := F) d L tileArgs : sProp 𝕄) := by
  unfold Scratch
  iintro ⟨H0, H1, H2, H3⟩
  isplitl [H0]; · iapply (holds_some (F := F) (n := 32768) d L (by decide) tileArgs.arg5); iexact H0
  isplitl [H1]; · iapply (holds_some (F := F) (n := 4096) d L (by decide) tileArgs.arg6); iexact H1
  isplitl [H2]; · iapply (holds_some (F := F) (n := 1024) d L (by decide) tileArgs.arg7); iexact H2
  iapply (holds_some (F := F) (n := 64) d L (by decide) tileArgs.arg8); iexact H3

theorem of_scratch (L : grid0.Coords) :
    (Scratch (F := F) d L tileArgs : sProp 𝕄)
      ⊢ iprop((∃ f, (V d (cV L) (jV L)).loc cc0_scratch0 ↦{fullShare} f) ∗ (∃ f, (V d (cV L) (jV L)).loc cc0_scratch1 ↦{fullShare} f)
        ∗ (∃ f, (V d (cV L) (jV L)).loc cc0_scratch2 ↦{fullShare} f) ∗ (∃ f, (V d (cV L) (jV L)).loc cc0_scratch3 ↦{fullShare} f)) := by
  unfold Scratch
  iintro ⟨H0, H1, H2, H3⟩
  isplitl [H0]; · iapply (some_holds (F := F) (n := 32768) d L tileArgs.arg5); iexact H0
  isplitl [H1]; · iapply (some_holds (F := F) (n := 4096) d L tileArgs.arg6); iexact H1
  isplitl [H2]; · iapply (some_holds (F := F) (n := 1024) d L tileArgs.arg7); iexact H2
  iapply (some_holds (F := F) (n := 64) d L tileArgs.arg8); iexact H3

theorem cred_free (L : grid0.Coords) {O : CellTallies nD τ sig (HIx 1)} (hO : ∀ g, O g none = 0) :
    levAts (K (F := F)).L (K (F := F)).lev ⊢ (Transfers.MayWaits (V d (cV L) (jV L)) (default : HIx 1) O : sProp 𝕄) :=
  (K (F := F)).mayWaits_none (thr := V d (cV L) (jV L)) hO

/-- The task of a tile, from its share and its row to its share and its row of the counts. -/
theorem tile_body (hF : (K (F := F)).Facts) (h8 : ∀ d j, (B d j).toNat < 8) (O : CellTallies nD τ sig (HIx 1)) (W : Waits sig (HIx 1)) (hO : ∀ g, O g none = 0) :
    iprop(levAts (K (F := F)).L (K (F := F)).lev ∗ emp ∗ taskRes d A B c i (C d)
        ∗ scopedBufs (V d (cV (coordsV c i)) (jV (coordsV c i))) ∗ scopedSems0 (V d (cV (coordsV c i)) (jV (coordsV c i)))
        ∗ owes (V d (cV (coordsV c i)) (jV (coordsV c i))) O W)
      ⊢ WP d (coordsV c i) (tileArgs.on (cc0_sc_kernel (F := F) (coordsV c i))) fun _ => iprop(taskRes d A B c i (counts (A d) (B d))
            ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  generalize hL : coordsV c i = L
  have hX : tileArgs.arg2.view.read (Elt F) (A d) = vec1 8000000 (scores (A d)) := (vec1_nat1 (n := 8000000) (by decide) (A d)).symm
  have hT : tileArgs.arg3.view.read (Elt F) (B d) = vec1 1000000 (targets (B d)) := (vec1_nat1 (n := 1000000) (by decide) (B d)).symm
  have hT8 : ∀ r < 1000000, (targets (B d) r).toNat < 8 := fun r _ => h8 d _
  have hrow := pointsTo_congr (Val := Elt F) (Ix := HIx 1) (Name := ℕ) (U := UU) (Lvl := ℕ) (ℓ := v1Loc d) (q := fullShare) (row_sent d L (A d) (B d) (C d))
  unfold taskRes
  rw [hL, (K (F := F)).scopedBufs_V hF d (cV L) (jV L), SparseCore.Cfg.scopedSems0_V (Val := Elt F) d (cV L) (jV L), ownSems0_V, ownBufs_V]
  iintro ⟨#Hlv, -, ⟨HX, HT, HR⟩, ⟨H0, H1, H2, H3, Hbufs⟩, ⟨Hsem, Hsems⟩, HO⟩
  ihave Hmw := (cred_free d L hO) $$ Hlv
  ihave HS := (scratch_of d L) $$ [H0 H1 H2 H3]
  · isplitl [H0]; · iexact H0
    isplitl [H1]; · iexact H1
    isplitl [H2]; · iexact H2
    iexact H3
  iapply (wp_wand_r frame (wpE (defs₀ (F := F)) 𝒱₀ (V d (cV L) (jV L)) none) Set.univ)
  isplitl [HX HT HR HS Hsem HO Hmw]
  · iapply (wp_tile (O := O) (W₀ := W) (q := shareOf c i) (q' := shareOf c i) (fs := A d) (gs := B d) d L tileArgs hX hT hT8 (C d))
    isplitl [HX]; · iexact HX
    isplitl [HT]; · iexact HT
    isplitl [HR]; · iexact HR
    isplitl [HS]; · iexact HS
    isplitl [Hsem]; · iexact Hsem
    unfold Owing
    isplitl [Hmw]; · iexact Hmw
    iexists W
    isplitr
    · ipureintro; exact fun p hp => .inl hp
    · iexact HO
  iintro %_ ⟨HX, HT, HR, HS, Hsem, HO⟩
  unfold Owing
  icases HO with ⟨-, HO⟩
  ihave HS' := (of_scratch d L) $$ HS
  icases HS' with ⟨H0, H1, H2, H3⟩
  ihave HR' := (show ((rowOut L tileArgs).view.loc (V d (cV L) (jV L)) ↦[(rowOut L tileArgs).view.set]{fullShare}
      (rowOut L tileArgs).view.write (Elt F) (C d) (vec1 64 (rowOf (F := F) L (scores (A d)) (targets (B d)))) Finset.univ : sProp 𝕄)
      ⊢ (v1Loc d ↦[rowSet L]{fullShare} counts (A d) (B d)) from Entails.of_eq hrow) $$ HR
  isplitl [HX HT HR']
  · isplitl [HX]; · iexact HX
    isplitl [HT]; · iexact HT
    iexact HR'
  isplitl [H0 H1 H2 H3 Hbufs]
  · isplitl [H0]; · iexact H0
    isplitl [H1]; · iexact H1
    isplitl [H2]; · iexact H2
    isplitl [H3]; · iexact H3
    iexact Hbufs
  isplitl [Hsem Hsems]
  · isplitl [Hsem]; · iexact Hsem
    iexact Hsems
  iexact HO

theorem obl_post {thr : Thread nD τ} {X Y Z : sProp (MT nD τ sig (HIx 1) (Elt F) ℕ UU ℕ)} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (h8 : ∀ d j, (B d j).toNat < 8) : (K (F := F)).TileObl (D (F := F)) 𝒱 (P A B C) v₀ 0 := by
  intro d c i O W hO _ _
  simp only [show (P A B C).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d ⟨_, hci.1⟩ ⟨_, hci.2⟩ A B C hF h8 O W hO).trans (wp_mono frame _ _ fun _ => obl_post)

end Task

end Cert.Proof.Ideal

end
-- ==== Proof.KernelCount.lean ====
/- The kernel's counts: the thirty-two rows of the counts add up to the count over all rows. -/
module

public import proofs.«01_k».proof.Proof.IdealLaunch

@[expose] public section

noncomputable section

namespace Cert.Proof.Hist

open Idealize.ShloMosaic

variable {F : FTy → Type} [FloatOps F] (X : ℕ → F .f32) (T : ℕ → BitVec 32)

/-- How often bin `b` is named by the rows from `B` on, `n` of them, as a number. -/
def hits (B n b : ℕ) : ℕ := ∑ r ∈ Finset.range n, if bin X T (B + r) = b then 1 else 0

theorem hits_le (B n b : ℕ) : hits X T B n b ≤ n := by
  unfold hits
  refine (Finset.sum_le_card_nsmul _ _ 1 fun r _ => by split <;> omega).trans ?_
  simp

theorem hits_add (B n k b : ℕ) : hits X T B (n + k) b = hits X T B n b + hits X T (B + n) k b := by
  unfold hits
  rw [Finset.sum_range_add]
  simp only [Nat.add_assoc]

/-- Equal blocks of rows, one after the other. -/
theorem hits_blocks (B n k b : ℕ) : ∑ w ∈ Finset.range k, hits X T (B + n * w) n b = hits X T B (n * k) b := by
  induction k with
  | zero => simp [hits]
  | succ k ih => rw [Finset.sum_range_succ, ih, Nat.mul_succ, hits_add]

/-- The count is that number as a word. -/
theorem count_hits (B n b : ℕ) : Hist.count X T B n b = BitVec.ofNat 32 (hits X T B n b) := by
  induction n with
  | zero => rfl
  | succ n ih =>
    unfold Hist.count hits at *
    rw [Finset.sum_range_succ, Finset.sum_range_succ, ih, BitVec.ofNat_add]
    congr 1
    unfold ind
    split <;> rfl

/-- A small number's word, read as signed. -/
theorem toInt_small (c : ℕ) (h : c ≤ 1000000) : (BitVec.ofNat 32 c).toInt = c := by
  rw [BitVec.toInt_eq_toNat_of_lt] <;> rw [BitVec.toNat_ofNat] <;> omega

end Cert.Proof.Hist

namespace Cert.Proof.Ideal

open Cert.KernelIdeal Cert.KernelIdeal.Gen Cert.Proof.Hist
open Idealize.ShloMosaic

theorem wid_rowTile (w : Fin 32) : wid (rowTile w) = w.val := by
  show 2 * (w.val / 2) + w.val % 2 = w.val
  omega

/-- The tiles that take a part of the tail are the first four. -/
theorem cond_rowTile (w : Fin 32) : k0_cond1 (rowTile w) = 1#1 ↔ w.val < 4 := by
  revert w; decide

variable {F : FTy → Type} [FloatOps F] (X : ℕ → F .f32) (T : ℕ → BitVec 32)

/-- How often bin `b` is named by the rows of tile `w`. -/
def tileHits (b w : ℕ) : ℕ := hits X T (31248 * w) 31248 b + if w < 4 then hits X T (999936 + 16 * w) 16 b else 0

theorem tileHits_le (b w : ℕ) : tileHits X T b w ≤ 1000000 := by
  have a := hits_le X T (31248 * w) 31248 b
  have c := hits_le X T (999936 + 16 * w) 16 b
  unfold tileHits
  split <;> omega

/-- A row of the counts. -/
theorem rowOf_hits (hT : ∀ r < 1000000, (T r).toNat < 8) (w : Fin 32) (b : ℕ) (hb : b < 64) :
    rowOf (rowTile w) X T b = BitVec.ofNat 32 (tileHits X T b w.val) := by
  have hw := w.isLt
  have e : rowOf (rowTile w) X T b
      = fold16 (tally (shX X (row0 (rowTile w))) (shT T (row0 (rowTile w))) 31248) b
        + fold16 (fun x => if k0_cond1 (rowTile w) = 1#1 then tally (shX X (row1 (rowTile w))) (shT T (row1 (rowTile w))) 16 x else 0#32) b :=
    fold16_add _ _ b
  rw [e, row0, row1, wid_rowTile, fold16_tally _ _ _ _ _ hb fun r hr => hT _ (by omega), count_hits]
  unfold tileHits
  by_cases h : w.val < 4
  · simp only [(cond_rowTile w).2 h, if_true, h]
    rw [fold16_tally _ _ _ _ _ hb fun r hr => hT _ (by omega), count_hits, BitVec.ofNat_add]
  · have h' : ¬ k0_cond1 (rowTile w) = 1#1 := fun q => h ((cond_rowTile w).1 q)
    simp only [h', if_false, h]
    rw [fold16_zero]
    simp

/-- The tiles' numbers add up. -/
theorem sum_tileHits (b : ℕ) : ∑ w : Fin 32, tileHits X T b w.val = hits X T 0 1000000 b := by
  rw [Fin.sum_univ_eq_sum_range (tileHits X T b) 32]
  unfold tileHits
  rw [Finset.sum_add_distrib, ← Finset.sum_filter]
  have f : (Finset.range 32).filter (· < 4) = Finset.range 4 := by decide
  have p := hits_blocks X T 0 31248 32 b
  have q := hits_blocks X T 999936 16 4 b
  simp only [Nat.zero_add] at p
  rw [f, p, q, show (1000000 : ℕ) = 31248 * 32 + 16 * 4 from rfl, hits_add]

/-- The rows of the counts, read as numbers, add up to the count over all rows. -/
theorem sum_rows (hT : ∀ r < 1000000, (T r).toNat < 8) (b : ℕ) (hb : b < 64) :
    ∑ w : Fin 32, (((rowOf (rowTile w) X T b).toInt : ℤ) : ℝ) = (((Hist.count X T 0 1000000 b).toInt : ℤ) : ℝ) := by
  rw [count_hits, toInt_small _ (hits_le X T 0 1000000 b), ← sum_tileHits]
  push_cast
  refine Finset.sum_congr rfl fun w _ => ?_
  rw [rowOf_hits X T hT w b hb, toInt_small _ (tileHits_le X T b w.val)]
  push_cast
  rfl

end Cert.Proof.Ideal
-- ==== Proof.IdealEpilogue.lean ====
/- The kernel's epilogue on the TensorCore: from the array of the tiles' counts it leaves the loss, by the one-point pipeline. -/
module

public import proofs.«01_k».proof.Proof.IdealLaunch
public import proofs.«01_k».proof.Proof.Gen.KernelIdeal.Launch
public import proofs.«01_k».proof.Proof.Gen.KernelIdeal.Points
public import Idealize.ShloMosaic.Lib.Pipeline.Value
public import Idealize.ShloMosaic.Lib.Pipeline.FrameBody

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe

variable [FloatOps F] [Named F]

/-- What the epilogue computes of the tiles' counts. -/
def loss (P : Vec F S32x8x8 .i32) : FVec F S1x1 .f32 :=
  k1_pay1 (k1_pay2 P) (Scalar.ofBits .f32 0xBF800000#32) (Scalar.ofBits .f32 0x3F800000#32)

/-- Reading, and writing, the rectangle of a view that starts at zero and is as large as the view. -/
theorem read_zero {sg : RefSig} {κ : Kind} {sp : Space} {e : EltTy} {s : Shape} {off : Fin s.rank → ℕ} (h : off = fun _ => 0) (inb : ∀ a, off a + s.size a ≤ s.size a)
    (v : View sg κ sp s e) (f : v.ty.Contents (Elt F)) : (v.slice (Rect.unit off s.size inb)).read (Elt F) f = v.read (Elt F) f := by
  subst h; exact read_all v f

theorem write_zero {sg : RefSig} {κ : Kind} {sp : Space} {e : EltTy} {s : Shape} {off : Fin s.rank → ℕ} (h : off = fun _ => 0) (inb : ∀ a, off a + s.size a ≤ s.size a)
    (v : View sg κ sp s e) (f : v.ty.Contents (Elt F)) (w : s.Idx → Elt F e) :
    v.read (Elt F) ((v.slice (Rect.unit off s.size inb)).write (Elt F) f w Finset.univ) = w := by
  subst h; exact write_all v f w

/-- The body: the counts read whole, the loss written whole. -/
theorem wp_epilogue (d : Dev nD) (a : Memref sig .tc .vmem S32x8x8 .i32) (ha : a.IsWhole) (o : Memref sig .tc .vmem S1x1 .f32) (ho : o.IsWhole)
    (P : Vec F S32x8x8 .i32) (Q : PUnit → sProp (MT nD τ sig (HIx 1) (Elt F) ℕ UU ℕ)) :
    iprop((owns (T d) a fullShare P : sProp 𝕄) ∗ (∃ X, owns (T d) o fullShare X)
        ∗ (iprop(owns (T d) a fullShare P ∗ owns (T d) o fullShare (loss P)) -∗ Q ⟨⟩))
      ⊢ wp frame (wpE (defs₀ (F := F)) 𝒱₀ (T d) none) Set.univ (cc1__qwk_epilogue (F := F) a ha o ho) Q := by
  rw [cc1__qwk_epilogue_eq_skeleton]
  unfold cc1__qwk_epilogue_skel
  rw [k1_part1_eq_skeleton]
  unfold k1_part1_skel
  simp only [Prog.bind_assoc, Prog.pure_eq_ret, Prog.bind_ret]
  unfold owns
  iintro ⟨⟨%f, %hf, Ha⟩, ⟨%X, %g, %hg, Ho⟩, Hk⟩
  rw [Prog.bind_lift]
  iapply (wp_load_rect 𝒱₀ (T d) none Set.univ (m := a) (r := Rect.unit (s := S32x8x8) ![0, 0, 0] S32x8x8.size inb_S32x8x8_S32x8x8_0_0_0) (f := f) (View.set_slice_subset _ _)) $$ Ha
  iintro Ha
  rw [Prog.bind_lift]
  iapply (wp_load_rect 𝒱₀ (T d) none Set.univ (m := o) (r := Rect.unit (s := S1x1) ![0, 0] S1x1.size inb_S1x1_S1x1_0_0) (f := g) (View.set_slice_subset _ _)) $$ Ho
  iintro Ho
  rw [Prog.bind_lift]
  iapply (wp_store 𝒱₀ (T d) none Set.univ (m := o) (r := Rect.unit (s := S1x1) ![0, 0] S1x1.size inb_S1x1_S1x1_0_0) (f := g) (View.set_slice_subset _ _)) $$ Ho
  iintro Ho
  iapply (le_wp_ret frame (wpE (defs₀ (F := F)) 𝒱₀ (T d) none) Set.univ)
  iapply Hk
  isplitl [Ha]
  · iexists f
    isplitr; · ipureintro; exact hf
    iexact Ha
  · iexists _
    isplitr; swap; · iexact Ho
    ipureintro
    refine (write_zero (funext fun a => by fin_cases a <;> rfl) inb_S1x1_S1x1_0_0 o.view g _).trans ?_
    unfold loss
    exact congrArg (fun v => k1_pay1 (k1_pay2 v) _ _) ((read_zero (funext fun a => by fin_cases a <;> rfl) inb_S32x8x8_S32x8x8_0_0_0 a.view f).trans hf)

/-! ## The pipeline's proof data -/

section Region

abbrev v2Loc (d : Dev nD) : Loc nD τ sig := (SparseCore.T d).loc main_v2
abbrev v3Loc (d : Dev nD) : Loc nD τ sig := (SparseCore.T d).loc main_v3

variable (P : (d : Dev nD) → Buf (Elt F) (v2Loc d)) (G : (d : Dev nD) → Buf (Elt F) (v3Loc d))

/-- The proof data: the counts and the result's old contents at entry; after the body the loss. -/
def edat (d : Dev nD) : Pipeline.Dat τ (Elt F) (HIx 1) ℕ UU ℕ cfg1 d where
  A w := match w with
    | ⟨0, _⟩ => P d
    | ⟨1, _⟩ => G d
  after w _ := match w with
    | ⟨0, _⟩ => P d
    | ⟨1, _⟩ => loss (P d)
  Φ _ := iprop(emp)
  q _ := fullShare
  owed _ := 0
  recorded _ := {p | (K (F := F)).lev (T d, p.1) p.2 ≤ 8}

abbrev adm : (p : Fin 1) → (pcfgs (F := F) p).Adm := fun p => (cfgs p).toPCfg_adm

def pdats : (p : Fin 1) → (d : Dev nD) → Pipeline.Dat τ (Elt F) (HIx 1) ℕ UU ℕ (Pipeline.pin (pcfgs (F := F)) adm p) d
  | 0 => edat P G

theorem before_counts (d : Dev nD) (X) : (edat P G d).before 0 t1_0 X = P d := by
  rw [(edat P G d).before_fetched 0 t1_0 (fetch1_0 _) X]
  unfold Pipeline.Dat.fetched Pipeline.Dat.blockOf
  funext x
  refine congrArg (P d) (funext fun a => Fin.ext ?_)
  show 0 * _ + 1 * (x a).val = (x a).val
  omega

/-- The body obligation. -/
theorem body1 (d : Dev nD) : Pipeline.BodyObligation (edat P G d) (defs₀ (F := F)) 𝒱₀ (default : HIx 1) Set.univ := fun t => by
  obtain rfl := fin_N1 t
  rw [bigSep_W1, bigSep_W1]
  rw [show (edat P G d).Φ t1_0.castSucc = iprop(emp) from rfl, show (edat P G d).Φ t1_0.succ = iprop(emp) from rfl,
    show (edat P G d).owesAt default t1_0.succ = (edat P G d).owesAt default t1_0.castSucc from rfl]
  iintro ⟨-, HO, ⟨%X, Ha⟩, ⟨%Y, Ho⟩⟩
  rw [before_counts]
  iapply (wp_epilogue d (win1_0.stage (cfg1.slots t1_0 0)) (hstage1_0 0) (win1_1.stage (cfg1.slots t1_0 1)) (hstage1_1 0) (P d))
  isplitl [Ha]; · iexact Ha
  isplitl [Ho]; · iexists _; iexact Ho
  iintro ⟨Ha, Ho⟩
  isplitr; · iempintro
  isplitl [HO]; · iexact HO
  isplitl [Ha]; · iexact Ha
  iexact Ho

/-- The result's array at the end. -/
theorem arr_loss (d : Dev nD) : (edat P G d).arrAt 1 cfg1.N = loss (P d) := by
  have e : ∀ x : S1x1.Idx, ((cfg1.win 1).blk t1_0).view.emb x = x := fun x => funext fun a => Fin.ext (by
    show 0 * _ + 1 * (x a).val = (x a).val
    omega)
  refine (edat P G d).arrAt_eq_of_cover 1 (loss (P d)) (fun t _ => ?_) fun i => ⟨t1_0, flush1_1 _, Finset.mem_map.mpr ⟨i, Finset.mem_univ _, e i⟩⟩
  obtain rfl := fin_N1 t
  funext x
  exact congrArg (loss (P d)) (e x).symm

theorem arr_counts (d : Dev nD) : (edat P G d).arrAt 0 cfg1.N = P d :=
  (edat P G d).arrAt_in 0 rfl _

theorem arrays_two (d : Dev nD) (Fa : (w : Fin cfg1.W) → Buf (Elt F) ((cfg1.win w).arr.view.loc (T d))) (f : Buf (Elt F) (v2Loc d)) (g : Buf (Elt F) (v3Loc d))
    (hf : Fa 0 = f) (hg : Fa 1 = g) : ((pdats P G 0 d).arrays Fa : sProp 𝕄) = iprop((v2Loc d ↦{fullShare} f) ∗ (v3Loc d ↦{fullShare} g)) := by
  subst hf hg
  unfold Pipeline.Dat.arrays
  refine (bigSep_W1 _).trans ?_
  show iprop((v2Loc d ↦[(Memref.whole main_v2).view.set]{fullShare} Fa 0) ∗ (v3Loc d ↦[(Memref.whole main_v3).view.set]{fullShare} Fa 1)) = _
  rw [show (Memref.whole main_v2).view.set = Finset.univ from View.set_whole _, show (Memref.whole main_v3).view.set = Finset.univ from View.set_whole _]

theorem bigSep_none {M : Type} [URA M] (Φ : Fin 0 → sProp M) : bigSep Finset.univ Φ = (BI.emp : sProp M) :=
  bigSep_univ_eq_bigSepL [] (by decide) (by decide) Φ

/-- The pipeline has no prefetched table. -/
theorem no_tables (d : Dev nD) (q) (pf) : (Pipeline.prefHeld (Ix := HIx 1) (Name := ℕ) (U := UU) (Lvl := ℕ) (Val := Elt F) (pcfgs (F := F) 0).pre d q pf : sProp 𝕄) = BI.emp :=
  bigSep_none _

/-- What the TensorCore owes around the region: nothing, every wait recorded at a level the calls allow. -/
def settled (d : Dev nD) : sProp 𝕄 :=
  iprop(∃ W, ⌜(K (F := F)).WBelow (T d) W 8⌝ ∗ owes (T d) (0 : CellTallies nD τ sig (HIx 1)) W)

theorem settled_owes (d : Dev nD) (t) : (settled d : sProp 𝕄) ⊢ (edat P G d).owesAt default t := by
  unfold settled Pipeline.Dat.owesAt Pipeline.owesWithin Pipeline.Dat.bound
  iintro ⟨%W, %hW, HO⟩
  iexists W
  isplitr; · ipureintro; exact fun p hp => Or.inl (hW p hp)
  iexact HO

theorem owes_settled (d : Dev nD) (t) : (edat P G d).owesAt default t ⊢ (settled d : sProp 𝕄) := by
  unfold settled Pipeline.Dat.owesAt Pipeline.owesWithin Pipeline.Dat.bound
  iintro ⟨%W, %hW, HO⟩
  iexists W
  isplitr
  · ipureintro
    intro p hp
    rcases hW hp with h | ⟨w, s, rfl⟩
    · exact h
    · exact Nat.zero_le _
  iexact HO

/-- The region: the counts and the result's array in, the loss out. -/
def region : Pipeline.RegionSeg (Name := ℕ) (U := UU) (pcfgs (F := F)) adm (pdats P G) (default : HIx 1) (defs₀ (F := F)) 𝒱₀ (K (F := F)).L (K (F := F)).lev 0 where
  win := winFacts1.to₀
  block_pos := block_pos1
  stage_whole := stage_whole1
  K := PEmpty
  osem k := k.elim
  ho := Pipeline.OwnSemFacts.none _
  hbody d := (body1 P G d).loose
  hwaits := Pipeline.hwaits_of_owed_zero _ _ _ _ (K (F := F)).L (K (F := F)).lev 0 fun _ _ => rfl
  pre d := iprop((v2Loc d ↦{fullShare} P d) ∗ (v3Loc d ↦{fullShare} G d) ∗ settled d)
  post d := iprop((v2Loc d ↦{fullShare} P d) ∗ (v3Loc d ↦{fullShare} loss (P d)) ∗ settled d)
  X _ := iprop(emp)
  Y _ := iprop(emp)
  Z _ := iprop(emp)
  hentry d := by
    rw [Pipeline.ownSems0_none, arrays_two P G d _ (P d) (G d) rfl rfl]
    iintro ⟨⟨Ha, Ho, HO⟩, -, -⟩
    imodintro
    isplitl [Ha Ho]
    · isplitl [Ha]; · iexact Ha
      iexact Ho
    isplitr; · rw [no_tables]; iempintro
    isplitl [HO]; · iapply (settled_owes P G d 0); iexact HO
    isplitr <;> iempintro
  hin d := by
    iintro -
    iempintro
  hout d := by
    rw [Pipeline.ownSems0_none, show (Pipeline.scopedRest (Pipeline.pin (pcfgs (F := F)) adm 0).spec d : sProp 𝕄) = BI.emp from scopedRest1_eq d]
    iintro -
    isplitr; · iempintro
    isplitr <;> iempintro
  hexit d := by
    rw [arrays_two P G d _ (P d) (loss (P d)) (arr_counts P G d) (arr_loss P G d)]
    iintro ⟨⟨Ha, Ho⟩, HO, -, -⟩
    imodintro
    isplitl [Ha]; · iexact Ha
    isplitl [Ho]; · iexact Ho
    iapply (owes_settled P G d _); iexact HO

end Region

end Cert.Proof.Ideal

end
-- ==== Proof.IdealMain.lean ====
/- The program's run: @main reshapes the scores, calls the SparseCores, runs the epilogue; its result is named as a function of the two arguments. -/
module

public import proofs.«01_k».proof.Proof.IdealEpilogue
public import Idealize.ShloMosaic.Lib.Pipeline.Sound

@[expose] public section

noncomputable section

namespace Cert.Proof.Ideal

open Cert.KernelIdeal Cert.KernelIdeal.Gen Cert.Proof.Hist

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.TcCoe
open Idealize.ShloMosaic.StableHlo (held wp_hlo_within)

variable [FloatOps F] [Named F]

/-! ## The result as a function of the arguments -/

/-- The scores as the kernel sees them: one row of eight behind another. -/
def flat (X : FVec F S1000000x8 .f32) : FVec F S8000000 .f32 := shapeCast S8000000 X shapeCasts_S1000000x8_S8000000

/-- The tiles' counts, of the two arguments. -/
def tileCounts (X : FVec F S1000000x8 .f32) (Y : IVec S1000000 32) : IVec S32x64 32 :=
  fun x => rowOf (F := F) (rowTile (x 0)) (nat1 (n := 8000000) (by decide) (flat X)) (nat1 (n := 1000000) (by decide) Y) (x 1).val

/-- The kernel's result. -/
def out (X : FVec F S1000000x8 .f32) (Y : IVec S1000000 32) : FVec F S_ .f32 :=
  shapeCast S_ (loss (shapeCast S32x8x8 (tileCounts X Y) shapeCasts_S32x64_S32x8x8)) shapeCasts_S1x1_S_

/-! ## The counts split over the tiles, and the shares of the operands -/

section Split

variable (d : Dev nD)

theorem shares (ℓ : Loc nD τ sig) (f : Buf (Elt F) ℓ) :
    (ℓ ↦{fullShare} f : sProp 𝕄) = bigSep Finset.univ fun c : Fin 2 => bigSep Finset.univ fun i : Fin 16 => ℓ ↦{shareOf c i} f := by
  rw [ShareLeaves.pointsTo_leaves Finset.univ f 1 fullShare]
  exact bigSep_congr fun c _ => ShareLeaves.pointsTo_leaves Finset.univ f 4 _

theorem wid_coords (c : Fin 2) (i : Fin 16) : wid (coordsV c i) = 2 * i.val + c.val := rfl

theorem rows (C : Buf (Elt F) (v1Loc d)) :
    (v1Loc d ↦{fullShare} C : sProp 𝕄) = bigSep Finset.univ fun c : Fin 2 => bigSep Finset.univ fun i : Fin 16 => v1Loc d ↦[rowSet (coordsV c i)]{fullShare} C := by
  have hcover : (Finset.univ : Finset (Fin 2 × Fin 16)).biUnion (fun p => rowSet (coordsV p.1 p.2)) = Finset.univ := by
    refine Finset.eq_univ_iff_forall.mpr fun x => Finset.mem_biUnion.mpr ⟨(⟨(x 0).val % 2, Nat.mod_lt _ (by decide)⟩, ⟨(x 0).val / 2, ?_⟩), Finset.mem_univ _, ?_⟩
    · have h : (x 0).val < 32 := (x 0).isLt
      omega
    · rw [mem_row, wid_coords]
      show (x 0).val = 2 * ((x 0).val / 2) + (x 0).val % 2
      omega
  have hdis : ∀ p ∈ (Finset.univ : Finset (Fin 2 × Fin 16)), ∀ p' ∈ (Finset.univ : Finset (Fin 2 × Fin 16)), p ≠ p' →
      Disjoint (rowSet (coordsV p.1 p.2)) (rowSet (coordsV p'.1 p'.2)) := by
    intro p _ p' _ hne
    refine Finset.disjoint_left.mpr fun x h h' => hne ?_
    rw [mem_row, wid_coords] at h h'
    have h1 := p.1.isLt; have h2 := p'.1.isLt
    exact Prod.ext (Fin.ext (by omega)) (Fin.ext (by omega))
  have e := pointsTo_biUnion (Val := Elt F) (Ix := HIx 1) (Name := ℕ) (U := UU) (Lvl := ℕ) (ℓ := v1Loc d) (q := fullShare) (f := C)
    (Finset.univ : Finset (Fin 2 × Fin 16)) (fun p => rowSet (coordsV p.1 p.2)) hdis
  rw [← bigSep_univ_prod (fun p : Fin 2 × Fin 16 => (v1Loc d ↦[rowSet (coordsV p.1 p.2)]{fullShare} C : sProp 𝕄)), ← e, hcover]

variable (A : (d : Dev nD) → Buf (Elt F) (v0Loc d)) (B : (d : Dev nD) → Buf (Elt F) (tgtLoc d)) (C : (d : Dev nD) → Buf (Elt F) (v1Loc d))

/-- All the tiles' shares and rows are the two operands and the array of the counts. -/
theorem tasks (C : Buf (Elt F) (v1Loc d)) :
    (bigSep Finset.univ fun c : Fin 2 => bigSep Finset.univ fun i : Fin 16 => (taskRes d A B c i C : sProp 𝕄))
      = iprop((v0Loc d ↦{fullShare} A d) ∗ (tgtLoc d ↦{fullShare} B d) ∗ (v1Loc d ↦{fullShare} C)) := by
  rw [shares (v0Loc d) (A d), shares (tgtLoc d) (B d), rows d C]
  unfold taskRes
  simp only [bigSep_sep']

theorem start_eq : (bigSep Finset.univ fun c : Fin ((K (F := F)).nCore 0) => (P A B C).st 0 d c)
    = iprop((v0Loc d ↦{fullShare} A d) ∗ (tgtLoc d ↦{fullShare} B d) ∗ (v1Loc d ↦{fullShare} C d)) := tasks d A B (C d)

theorem done_eq : (bigSep Finset.univ fun c : Fin ((K (F := F)).nCore 0) => (P A B C).dn 0 d c)
    = iprop((v0Loc d ↦{fullShare} A d) ∗ (tgtLoc d ↦{fullShare} B d) ∗ (v1Loc d ↦{fullShare} counts (A d) (B d))) := tasks d A B (counts (A d) (B d))

end Split

/-! ## The ghost state -/

/-- The calls' rounds library, and the pipeline's. -/
def EH : Emb (URounds (GSem nD τ sig) ℕ) (MT nD τ sig (HIx 1) (Elt F) ℕ UU ℕ) :=
  ((Emb.inl : Emb (URounds (GSem nD τ sig) ℕ) UH).trans (Emb.inl : Emb UH UU)).trans (uEmb (nD := nD) (sig := sig) (Ix := HIx 1) (Val := Elt F) (Name := ℕ) (U := UU) (Lvl := ℕ)).toEmb
def EP : Emb (URounds (GSem nD τ sig) Unit) (MT nD τ sig (HIx 1) (Elt F) ℕ UU ℕ) :=
  ((Emb.inr : Emb (URounds (GSem nD τ sig) Unit) UH).trans (Emb.inl : Emb UH UU)).trans (uEmb (nD := nD) (sig := sig) (Ix := HIx 1) (Val := Elt F) (Name := ℕ) (U := UU) (Lvl := ℕ)).toEmb

instance EH_landsIn : (EH : Emb (URounds (GSem nD τ sig) ℕ) 𝕄).LandsIn (upEmb : UEmb _ 𝕄) := by unfold EH; infer_instance
instance EP_landsIn : (EP : Emb (URounds (GSem nD τ sig) Unit) 𝕄).LandsIn (upEmb : UEmb _ 𝕄) := by unfold EP; infer_instance

theorem ownU_split (a : URounds (GSem nD τ sig) ℕ) (b : URounds (GSem nD τ sig) Unit) :
    (ownU (((a, b), 1) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one 1)))

def u₀ : UU := ((initOf (K (F := F)).hsCells (K (F := F)).hsToks, initOf (Pipeline.cells cfgs cellOf_inj) (Pipeline.launchToks cfgs cellOf_inj)), 1)

/-- What the launch hands the TensorCore of the pipeline's ghost state. -/
def G (d : Dev nD) : sProp 𝕄 :=
  iprop((bigSep Finset.univ fun p => Pipeline.cellsGhost cfgs EP p d) ∗ (bigSep Finset.univ fun p => Pipeline.toksInit cfgs EP p d))

section Launch

variable (A : (d : Dev nD) → Buf (Elt F) (v0Loc d)) (B : (d : Dev nD) → Buf (Elt F) (tgtLoc d)) (C : (d : Dev nD) → Buf (Elt F) (v1Loc d))

theorem extra_none : (iprop(emp) : sProp 𝕄) = bigSep Finset.univ fun thr : Thread nD τ => bigSep Finset.univ fun q : Fin 1 => (P A B C).x q thr := by
  have h : ∀ thr : Thread nD τ, (bigSep Finset.univ fun q : Fin 1 => (P A B C).x q thr) = (iprop(emp) : sProp 𝕄) := fun _ => bigSep_emp_const _
  rw [bigSep_congr (fun thr _ => h thr)]
  exact (bigSep_emp_const _).symm

theorem launch_ghost : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P A B C).x q thr) := by
  unfold u₀
  rw [← extra_none]
  iintro Hu
  ihave H := (ownU_split _ _) $$ Hu
  icases H with ⟨HH, HP⟩
  imod (Pipeline.fund_ghost cfgs EP cellOf_inj) $$ HP with ⟨Hc, Ht⟩
  imodintro
  isplitl [HH]; · iexact HH
  isplitl [Hc Ht]
  · unfold G
    rw [bigSep_sep']
    isplitl [Hc]; · iexact Hc
    iexact Ht
  iempintro

end Launch

/-! ## @main -/

/-- The epilogue's call in @main. -/
theorem wp_region [∀ e, Nonempty (Elt F e)] (P : (d : Dev nD) → Buf (Elt F) (v2Loc d)) (G₀ : (d : Dev nD) → Buf (Elt F) (v3Loc d)) (d : Dev nD) (Q : PUnit → sProp (MT nD τ sig (HIx 1) (Elt F) ℕ UU ℕ)) :
    iprop((iprop(boundary (T d) ∗ (v2Loc d ↦{fullShare} P d) ∗ (v3Loc d ↦{fullShare} loss (P d)) ∗ settled d) -∗ Q ⟨⟩)
        ∗ boundary (T d) ∗ (v2Loc d ↦{fullShare} P d) ∗ (v3Loc d ↦{fullShare} G₀ d) ∗ settled d ∗ levAts (K (F := F)).L (K (F := F)).lev ∗ G (F := F) d)
      ⊢ wp frame (wpE ((K (F := F)).defs (D (F := F))) 𝒱 (T d) none) Set.univ (Prog.lift (.customCall (SparseCore.inner (Pipeline.entry 0)) ())) Q := by
  have hlift : (Prog.lift (.customCall (SparseCore.inner (Pipeline.entry 0)) ()) : Prog (TpuEff nD τ sig (Elt F) (SparseCore.Sig (ΛP (F := F)) 1) .tc) PUnit)
      = SparseCore.liftProg (Prog.op (.customCall (Pipeline.entry 0) ()) .ret : Prog (TpuEff nD τ sig (Elt F) (ΛP (F := F)) .tc) PUnit) := rfl
  rw [hlift]
  have hl := (K (F := F)).wp_liftProg (D (F := F)) 𝒱 (T d) Set.univ none (Prog.op (.customCall (Pipeline.entry 0) ()) .ret : Prog (TpuEff nD τ sig (Elt F) (ΛP (F := F)) .tc) PUnit) Q
  have hr := Pipeline.RegionSeg.wp (pcfgs (F := F)) adm (pdats P G₀) (default : HIx 1) cellOf_inj EP (defs₀ (F := F)) 𝒱₀ (K (F := F)).L (K (F := F)).lev
    (region P G₀) d none (fun _ h => nomatch h) .ret Q
  have hpre : (region P G₀).pre d = iprop((v2Loc d ↦{fullShare} P d) ∗ (v3Loc d ↦{fullShare} G₀ d) ∗ settled d) := rfl
  have hpost : (region P G₀).post d = iprop((v2Loc d ↦{fullShare} P d) ∗ (v3Loc d ↦{fullShare} loss (P d)) ∗ settled d) := rfl
  rw [hpre, hpost] at hr
  unfold G
  rw [bigSep_univ_of_subsingleton (0 : Fin 1), bigSep_univ_of_subsingleton (0 : Fin 1)]
  iintro ⟨Hk, Hb, Ha, Ho, HO, Hlv, Hc, Ht⟩
  iapply hl
  iapply hr
  isplitl [Hk]
  · iintro ⟨Hb, Hpost⟩
    iapply (le_wp_ret frame (wpE (Pipeline.defs pcfgs (defs₀ (F := F))) 𝒱 (T d) none) Set.univ)
    iapply Hk
    isplitl [Hb]; · iexact Hb
    iexact Hpost
  isplitl [Hb]; · iexact Hb
  isplitl [Ha Ho HO]
  · isplitl [Ha]; · iexact Ha
    isplitl [Ho]; · iexact Ho
    iexact HO
  isplitl [Hlv]; · iexact Hlv
  isplitl [Hc]; · iexact Hc
  iexact Ht

section Main

variable (m : (ℓ : Loc nD τ sig) → Buf (Elt F) ℓ) (ρ : Dev nD → PrngReg)

abbrev op1 : HloOp τ sig (Elt F) := StableHlo.reshape main_arg0 main_v0 (rfl : (.f32 : EltTy) = .f32) shapeCasts_S1000000x8_S8000000
abbrev op2 : HloOp τ sig (Elt F) := StableHlo.reshape main_v1 main_v2 (rfl : (.i32 : EltTy) = .i32) shapeCasts_S32x64_S32x8x8
abbrev op3 : HloOp τ sig (Elt F) := StableHlo.reshape main_v3 main_v4 (rfl : (.f32 : EltTy) = .f32) shapeCasts_S1x1_S_

abbrev pair (x y : Ref sig .tc) : Finset (DevRef τ sig) := {Proc.devRef .tc x, Proc.devRef .tc y}

/-- A reshape in @main: the source kept, the result at the source reshaped. -/
theorem wp_reshape [∀ e, Nonempty (Elt F e)] (d : Dev nD) (x y : Ref sig .tc) (hxy : (Proc.devRef .tc x : DevRef τ sig) ≠ Proc.devRef .tc y) (he : x.ty.elt = y.ty.elt) (hn : x.ty.shape.ShapeCasts y.ty.shape) (hx) (hy)
    (f : Buf (Elt F) ((SparseCore.T d).loc x)) (g : Buf (Elt F) ((SparseCore.T d).loc y)) (Q : PUnit → sProp (MT nD τ sig (HIx 1) (Elt F) ℕ UU ℕ)) :
    iprop(boundary (T d) ∗ ((SparseCore.T d).loc x ↦{fullShare} f) ∗ ((SparseCore.T d).loc y ↦{fullShare} g))
      ⊢ iprop((iprop(boundary (T d) ∗ ((SparseCore.T d).loc x ↦{fullShare} f) ∗ ((SparseCore.T d).loc y ↦{fullShare} (fun i => he ▸ shapeCast y.ty.shape f hn i : y.ty.Contents (Elt F)))) -∗ Q ⟨⟩)
        -∗ wp frame (wpE ((K (F := F)).defs (D (F := F))) 𝒱 (T d) none) Set.univ (hlo rfl (StableHlo.reshape x y he hn hx hy : HloOp τ sig (Elt F)) (fun _ => .ret ⟨⟩)) Q) := by
  have hS : ∀ W : Valuation τ sig (Elt F), (held (T d) (pair x y) W : sProp 𝕄)
      = iprop(((SparseCore.T d).loc x ↦{fullShare} W (Proc.devRef .tc x)) ∗ ((SparseCore.T d).loc y ↦{fullShare} W (Proc.devRef .tc y))) := fun W => by
    unfold held
    rw [SparseCore.bigSep_insert' (by simpa using hxy), bigSep_singleton]
  obtain ⟨W, hf, hg⟩ : ∃ W : Valuation τ sig (Elt F), W (Proc.devRef .tc x) = f ∧ W (Proc.devRef .tc y) = g :=
    ⟨Function.update (Function.update (fun b => Classical.arbitrary _) (Proc.devRef .tc x) f) (Proc.devRef .tc y) g,
      (Function.update_of_ne hxy _ _).trans (Function.update_self _ _ _), Function.update_self _ _ _⟩
  iintro ⟨Hb, Hx, Hy⟩ Hk
  iapply (wp_hlo_within 𝒱 (T d) none Set.univ (op := (StableHlo.reshape x y he hn hx hy : HloOp τ sig (Elt F))) (S := pair x y) (Finset.Subset.refl _) (V := W)) $$ [Hb Hx Hy]
  · isplitl [Hb]; · iexact Hb
    rw [hS, hf, hg]
    isplitl [Hx]; · iexact Hx
    iexact Hy
  rw [hS, (StableHlo.reshape x y he hn hx hy : HloOp τ sig (Elt F)).result_of_not_mem W (show (Proc.devRef .tc x : DevRef τ sig) ∉ ({Proc.devRef .tc y} : Finset (DevRef τ sig)) by simpa using hxy),
    StableHlo.reshape_result x y he hn hx hy W, hf]
  iintro ⟨Hb, Hx, Hy⟩
  rw [wp_ret]; imodintro
  iapply Hk
  isplitl [Hb]; · iexact Hb
  isplitl [Hx]; · iexact Hx
  iexact Hy

/-- The seven arrays of @main, each whole. -/
theorem arrays_eq (d : Dev nD) : (unscopedBufs d (fun b => m ((SparseCore.T d).loc b)) : sProp 𝕄)
    = iprop((argLoc d ↦{fullShare} m (argLoc d)) ∗ (tgtLoc d ↦{fullShare} m (tgtLoc d)) ∗ (v0Loc d ↦{fullShare} m (v0Loc d)) ∗ (v1Loc d ↦{fullShare} m (v1Loc d))
        ∗ (v2Loc d ↦{fullShare} m (v2Loc d)) ∗ (v3Loc d ↦{fullShare} m (v3Loc d)) ∗ ((SparseCore.T d).loc main_v4 ↦{fullShare} m ((SparseCore.T d).loc main_v4))) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

abbrev resLoc (d : Dev nD) : Loc nD τ sig := (SparseCore.T d).loc main_v4

/-- What the call is handed: the flat scores, the targets, and the counts' array as launched. -/
abbrev callA (d : Dev nD) : Buf (Elt F) (v0Loc d) := flat (F := F) (m (argLoc d))
abbrev callB (d : Dev nD) : Buf (Elt F) (tgtLoc d) := m (tgtLoc d)
abbrev callC (d : Dev nD) : Buf (Elt F) (v1Loc d) := m (v1Loc d)

/-- What the epilogue is handed: the counts as one table of 8 by 8 for each tile. -/
abbrev epiP (d : Dev nD) : Buf (Elt F) (v2Loc d) := shapeCast S32x8x8 (tileCounts (F := F) (m (argLoc d)) (m (tgtLoc d))) shapeCasts_S32x64_S32x8x8
abbrev epiG (d : Dev nD) : Buf (Elt F) (v3Loc d) := m (v3Loc d)

/-- What @main leaves: the arguments as launched, the result at `out` of them. -/
abbrev FIN (d : Dev nD) : sProp 𝕄 :=
  iprop((argLoc d ↦{fullShare} m (argLoc d)) ∗ (tgtLoc d ↦{fullShare} m (tgtLoc d)) ∗ (resLoc d ↦{fullShare} (out (F := F) (m (argLoc d)) (m (tgtLoc d)) : Buf (Elt F) (resLoc d))))

/-- After the call the TensorCore owes nothing. -/
theorem st_settled (d : Dev nD) : ((K (F := F)).tcSt EH d 1 : sProp 𝕄) ⊢ iprop(settled d ∗ (settled d -∗ (K (F := F)).tcSt EH d 1)) := by
  unfold SparseCore.Cfg.tcSt settled
  rw [(K (F := F)).Otc_end d (le_refl 1)]
  iintro ⟨HO, Hr⟩
  isplitl [HO]
  · iexact HO
  iintro HO
  isplitl [HO]; · iexact HO
  iexact Hr

/-- @main on a device's TensorCore. -/
theorem hmain [∀ e, Nonempty (Elt F e)] (κ : GSem nD τ sig → ℕ) (d : Dev nD) :
    iprop((K (F := F)).ctx EH (P (callA m) (callB m) (callC m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Harg, Htgt, H0, H1, H2, H3, H4⟩, Hts, -⟩, HG⟩
  iapply (wp_reshape d main_arg0 main_v0 (by decide) rfl shapeCasts_S1000000x8_S8000000 _ _ (m (argLoc d)) (m (v0Loc d)) _) $$ [Hb Harg H0]
  · isplitl [Hb]; · iexact Hb
    isplitl [Harg]; · iexact Harg
    iexact H0
  iintro ⟨Hb, Harg, H0⟩
  iapply ((K (F := F)).wp_run (D (F := F)) 𝒱 (EH := EH) (P := P (callA m) (callB m) (callC m)) κ d 0) $$ [Hst Hb Harg Htgt H0 H1 H2 H3 H4 Hts HG]
  isplitr; · iexact Hctx
  isplitl [Hst]; · iexact Hst
  isplitl [H0 Htgt H1]
  · rw [start_eq]
    isplitl [H0]; · iexact H0
    isplitl [Htgt]; · iexact Htgt
    iexact H1
  rw [show ((0 : Fin 1).val + 1) = 1 from rfl]
  iintro ⟨Hst, Hdn⟩
  ihave Hdn' := (Idealize.SL.BI.BIBase.Entails.of_eq (done_eq d (callA m) (callB m) (callC m))) $$ Hdn
  icases Hdn' with ⟨H0, Htgt, H1⟩
  iapply (wp_reshape d main_v1 main_v2 (by decide) rfl shapeCasts_S32x64_S32x8x8 _ _ (tileCounts (F := F) (m (argLoc d)) (m (tgtLoc d))) (m (v2Loc d)) _) $$ [Hb H1 H2]
  · isplitl [Hb]; · iexact Hb
    isplitl [H1]; · iexact H1
    iexact H2
  iintro ⟨Hb, H1, H2⟩
  ihave Hs := (st_settled (F := F) d) $$ Hst
  icases Hs with ⟨HO, Hst⟩
  ihave Hlev := (SparseCore.Cfg.ctx_levAts κ) $$ Hctx
  iapply (wp_region (epiP m) (epiG m) d)
  isplitr [Hb H2 H3 HO Hlev HG]
  · iintro ⟨Hb, H2, H3, HO⟩
    ihave Hst := Hst $$ HO
    iapply (wp_reshape d main_v3 main_v4 (by decide) rfl shapeCasts_S1x1_S_ _ _ (loss (epiP m d)) (m (resLoc d)) _) $$ [Hb H3 H4]
    · isplitl [Hb]; · iexact Hb
      isplitl [H3]; · iexact H3
      iexact H4
    iintro ⟨Hb, H3, H4⟩
    imodintro
    isplitl [Hst]; · iexact Hst
    isplitl [Harg Htgt H4]
    · isplitl [Harg]; · iexact Harg
      isplitl [Htgt]; · iexact Htgt
      iexact H4
    isplitl [Hb] <;> iassumption
  isplitl [Hb]; · iexact Hb
  isplitl [H2]; · iexact H2
  isplitl [H3]; · iexact H3
  isplitl [HO]; · iexact HO
  isplitl [Hlev]; · iexact Hlev
  iexact HG

/-- What a device's final memory holds. -/
def fq (d : Dev nD) (s' : Phys nD τ sig (Elt F)) : Prop :=
  s'.mem.mem (resLoc d) = (out (F := F) (m (argLoc d)) (m (tgtLoc d)) : Buf (Elt F) (resLoc d)) ∧ s'.mem.mem (argLoc d) = m (argLoc d) ∧ s'.mem.mem (tgtLoc d) = m (tgtLoc d)

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%ha, HSI, -⟩
  ihave H := (persistent_entails_right (SI_pointsTo_agree (st := s') (ℓ := tgtLoc d) (I := Finset.univ) (q := fullShare) (f := m (tgtLoc d)))) $$ [HSI Ht]
  · isplitl [HSI] <;> iassumption
  icases H with ⟨%ht, HSI, -⟩
  ihave H := (SI_pointsTo_agree (st := s') (ℓ := resLoc d) (I := Finset.univ) (q := fullShare) (f := (out (F := F) (m (argLoc d)) (m (tgtLoc d)) : Buf (Elt F) (resLoc d)))) $$ [HSI Hr]
  · isplitl [HSI] <;> iassumption
  icases H with %hr
  ipureintro
  exact ⟨funext fun i => hr i (Finset.mem_univ i), funext fun i => ha i (Finset.mem_univ i), funext fun i => ht i (Finset.mem_univ i)⟩

/-- A run's post: the result at `out` of the arguments, the arguments as launched, every semaphore at zero. -/
def QC : PUnit × MemSt nD τ sig (Elt F) → Prop := fun r =>
  (∀ c : Dev nD, r.2.mem (resLoc c) = (out (F := F) (m (argLoc c)) (m (tgtLoc c)) : Buf (Elt F) (resLoc c)) ∧ r.2.mem (argLoc c) = m (argLoc c) ∧ r.2.mem (tgtLoc c) = m (tgtLoc c))
    ∧ r.2.sem = fun _ => 0

/-- Every run of the program, its targets below 8, ends with the result at `out` of the arguments. -/
theorem run_main [∀ e, Nonempty (Elt F e)] (h8 : ∀ (d : Dev nD) j, (callB m d j).toNat < 8) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (callA m) (callB m) (callC m)) (A := ∅) facts v₀
    (fun q hq => match q with | 0 => nomatch hq) (fun q _ => match q with | 0 => tileObl (callA m) (callB m) (callC m) facts h8)
    (fun q _ => match q with | 0 => SparseCore.Cfg.VecSplit.of_plain (vecSplit (callA m) (callB m) (callC m)))
    m ρ main G (FIN m) u₀ (sep_elim_left.trans (launch_ghost (callA m) (callB m) (callC m))) (hmain m ρ) (fq m) (hfin m) (QC m) (fun _ h hz => ⟨h, hz⟩)

end Main

end Cert.Proof.Ideal

end
-- ==== Proof.First.lean ====
/- The first largest of a row's scores: the tournament of pairs finds it, a one by one walk finds it, and softmax does not
   move it. -/
module

public import proofs.«01_k».proof.Proof.Hist
public import Idealize.ShloMosaic.PureOps.Ideal.Laws

@[expose] public section

noncomputable section

namespace Cert.Proof.Hist

open Idealize.ShloMosaic

/-- Among the positions from `a` to before `b`, `i` is the first that holds the largest value. -/
def First (x : ℕ → EReal) (a b i : ℕ) : Prop := a ≤ i ∧ i < b ∧ (∀ j, a ≤ j → j < i → x j < x i) ∧ ∀ j, a ≤ j → j < b → x j ≤ x i

/-- A run of one position. -/
theorem First.one (x : ℕ → EReal) (a : ℕ) : First x a (a + 1) a :=
  ⟨le_rfl, by omega, fun j h h' => absurd h (by omega), fun j h h' => by rw [show j = a by omega]⟩

/-- There is one first largest position. -/
theorem First.unique {x : ℕ → EReal} {a b i i' : ℕ} (h : First x a b i) (h' : First x a b i') : i = i' := by
  obtain ⟨h1, h2, h3, h4⟩ := h
  obtain ⟨k1, k2, k3, k4⟩ := h'
  rcases lt_trichotomy i i' with e | e | e
  · exact absurd (k3 i h1 e) (not_lt.2 (h4 i' k1 k2))
  · exact e
  · exact absurd (h3 i' k1 e) (not_lt.2 (k4 i h1 h2))

/-- Of two runs side by side, the first largest is the right one's when that is strictly larger, and else the left one's. -/
theorem First.join {x : ℕ → EReal} {a b c i j : ℕ} (h : First x a b i) (k : First x b c j) : First x a c (if x i < x j then j else i) := by
  obtain ⟨h1, h2, h3, h4⟩ := h
  obtain ⟨k1, k2, k3, k4⟩ := k
  split
  · next e =>
    refine ⟨by omega, k2, fun l l1 l2 => ?_, fun l l1 l2 => ?_⟩
    · by_cases q : l < b
      · exact (h4 l l1 q).trans_lt e
      · exact k3 l (by omega) l2
    · by_cases q : l < b
      · exact (h4 l l1 q).trans e.le
      · exact k4 l (by omega) l2
  · next e =>
    refine ⟨h1, by omega, h3, fun l l1 l2 => ?_⟩
    by_cases q : l < b
    · exact h4 l l1 q
    · exact (k4 l (by omega) l2).trans (not_lt.1 e)

/-- Two rows in the same order have the same first largest position. -/
theorem First.congr {x y : ℕ → EReal} {a b i : ℕ} (hxy : ∀ j k, j < b → k < b → (x j < x k ↔ y j < y k)) (h : First x a b i) : First y a b i :=
  ⟨h.1, h.2.1, fun j h1 h2 => (hxy j i (h2.trans h.2.1) h.2.1).1 (h.2.2.1 j h1 h2),
    fun j h1 h2 => not_lt.1 fun e => not_lt.2 (h.2.2.2 j h1 h2) ((hxy i j h.2.1 h2).2 e)⟩

/-- A value and a label that are the first largest's of a run. -/
def Top (x : ℕ → EReal) (a b : ℕ) (v : EReal) (w : BitVec 32) : Prop := ∃ i, First x a b i ∧ v = x i ∧ w = BitVec.ofNat 32 i

theorem Top.one (x : ℕ → EReal) (a : ℕ) : Top x a (a + 1) (x a) (BitVec.ofNat 32 a) := ⟨a, First.one x a, rfl, rfl⟩

/-- A match of the tournament between the winners of two runs side by side. -/
theorem Top.join {x : ℕ → EReal} {a b c : ℕ} {v v' : EReal} {w w' : BitVec 32} (h : Top x a b v w) (k : Top x b c v' w') :
    Top x a c (best2 (F := Ideal) v v') (pick2 (F := Ideal) v v' w w') := by
  obtain ⟨i, hi, rfl, rfl⟩ := h
  obtain ⟨j, hj, rfl, rfl⟩ := k
  refine ⟨_, hi.join hj, ?_, ?_⟩
  · unfold best2 Scalar.select
    rw [Ideal.cmpf_def]
    by_cases e : x i < x j <;> simp [Ideal.cmp, e]
  · unfold pick2 Scalar.select
    rw [Ideal.cmpf_def]
    by_cases e : x i < x j <;> simp [Ideal.cmp, e]

/-- The tournament finds the first largest of eight scores. -/
theorem pred8_first (x : ℕ → EReal) : ∃ i, First x 0 8 i ∧ pred8 (F := Ideal) x = BitVec.ofNat 32 i := by
  obtain ⟨i, h, _, e⟩ :=
    (((Top.one x 0).join (Top.one x 1)).join ((Top.one x 2).join (Top.one x 3))).join
      (((Top.one x 4).join (Top.one x 5)).join ((Top.one x 6).join (Top.one x 7)))
  exact ⟨i, h, e⟩

/-- What names the first largest of eight scores is the tournament's winner. -/
theorem pred8_eq {x : ℕ → EReal} {i : ℕ} (h : First x 0 8 i) : pred8 (F := Ideal) x = BitVec.ofNat 32 i := by
  obtain ⟨j, hj, e⟩ := pred8_first x
  rw [e, hj.unique h]

/-- Of two pairs, `p` is at least as good as `q`: larger, or as large and with a label that is no later. -/
def Beats (p q : EReal × BitVec 32) : Prop := q.1 < p.1 ∨ q.1 = p.1 ∧ p.2.toInt ≤ q.2.toInt

theorem Beats.rfl' (p : EReal × BitVec 32) : Beats p p := Or.inr ⟨rfl, le_rfl⟩

theorem Beats.trans {p q r : EReal × BitVec 32} (h : Beats p q) (k : Beats q r) : Beats p r := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- A walk that keeps the better of two pairs ends with a pair it has met that is at least as good as each of them. -/
theorem foldl_beats (f : EReal × BitVec 32 → EReal × BitVec 32 → EReal × BitVec 32)
    (hf : ∀ p q, (f p q = p ∨ f p q = q) ∧ Beats (f p q) p ∧ Beats (f p q) q) (L : List (EReal × BitVec 32)) (p : EReal × BitVec 32) :
    (L.foldl f p = p ∨ L.foldl f p ∈ L) ∧ Beats (L.foldl f p) p ∧ ∀ q ∈ L, Beats (L.foldl f p) q := by
  induction L generalizing p with
  | nil => exact ⟨Or.inl rfl, Beats.rfl' p, fun q h => absurd h (List.not_mem_nil)⟩
  | cons a L ih =>
    obtain ⟨h1, h2, h3⟩ := ih (f p a)
    obtain ⟨k1, k2, k3⟩ := hf p a
    rw [List.foldl_cons]
    refine ⟨?_, h2.trans k2, fun q hq => ?_⟩
    · rcases h1 with h1 | h1
      · rw [h1]
        rcases k1 with k1 | k1
        · exact Or.inl k1
        · rw [k1]; exact Or.inr (List.mem_cons_self)
      · exact Or.inr (List.mem_cons_of_mem _ h1)
    · rcases List.mem_cons.1 hq with rfl | hq
      · exact h2.trans k3
      · exact h3 q hq

/-- A pair that is at least as good as every position of a row, and is one of them, names the first largest. -/
theorem first_of_beats {x : ℕ → EReal} {i : ℕ} (hi : i < 8) (h : ∀ k < 8, Beats (x i, BitVec.ofNat 32 i) (x k, BitVec.ofNat 32 k)) : First x 0 8 i := by
  have key : ∀ k < 8, x k < x i ∨ x k = x i ∧ i ≤ k := fun k hk => by
    rcases h k hk with e | ⟨e, e'⟩
    · exact Or.inl e
    · refine Or.inr ⟨e, ?_⟩
      have a : (BitVec.ofNat 32 i).toInt = i := by rw [BitVec.toInt_eq_toNat_of_lt] <;> simp <;> omega
      have b : (BitVec.ofNat 32 k).toInt = k := by rw [BitVec.toInt_eq_toNat_of_lt] <;> simp <;> omega
      simp only [a, b] at e'
      exact_mod_cast e'
  refine ⟨Nat.zero_le _, hi, fun j _ hj => ?_, fun j _ hj => ?_⟩
  · rcases key j (hj.trans hi) with e | ⟨_, e⟩
    · exact e
    · omega
  · rcases key j hj with e | ⟨e, _⟩
    · exact e.le
    · exact e.le

end Cert.Proof.Hist

end
-- ==== Proof.RowFacts.lean ====
/- A table of eight columns reduced along its rows, at any number of rows: a row's maximum is a number when its scores are,
   and the arg-max of a row is its first largest position. -/
module

public import proofs.«01_k».proof.Proof.First
public import Idealize.ShloMosaic.Lib.Pointwise

@[expose] public section

noncomputable section

namespace Cert.Proof.Hist

open Idealize.ShloMosaic

/-- A table of `n` rows of eight columns. -/
abbrev Tab (n : ℕ) : Shape := ⟨2, ![n, 8]⟩

variable {n : ℕ} {u : Shape}

/-- The indices that drop to row `a` are that row's. -/
theorem drop_row (h : (Tab n).ReducesTo [1] (Sh n)) (a : Fin n) (i : (Tab n).Idx) : h.drop i = ix1 a ↔ ∃ k : Fin 8, ix2 a k = i :=
  h.fiber_r2_a1 (ix1 a) i

/-- The maximum of a row of numbers is a number. -/
theorem reduce_max_real (X : FVec Ideal (Tab n) .f32) (init : u.Idx → Ideal .f32) (hinit : ∀ i, init i = ⊥) (h : (Tab n).ReducesTo [1] (Sh n))
    (hu : 0 < u.numel) (a : Fin n) (hX : ∀ k : Fin 8, ∃ r : ℝ, X (ix2 a k) = (r : EReal)) :
    ∃ r : ℝ, Host.reduce FloatOps.maximumf X init h hu (ix1 a) = (r : EReal) := by
  rw [Host.reduce_eq_fold, hinit]
  have e : ∀ S : Finset (Tab n).Idx, S.fold (FloatOps.maximumf (F := Ideal) (φ := .f32)) ⊥ X = S.fold max (⊥ : EReal) X := fun _ => rfl
  rw [e]
  have lo : ⊥ < (Finset.univ.filter fun i => h.drop i = ix1 a).fold max (⊥ : EReal) X := by
    rw [Finset.lt_fold_max]
    refine Or.inr ⟨ix2 a 0, Finset.mem_filter.2 ⟨Finset.mem_univ _, (drop_row h a _).2 ⟨0, rfl⟩⟩, ?_⟩
    obtain ⟨r, hr⟩ := hX 0
    rw [hr]
    exact EReal.bot_lt_coe r
  have hi : (Finset.univ.filter fun i => h.drop i = ix1 a).fold max (⊥ : EReal) X < ⊤ := by
    rw [Finset.fold_max_lt]
    refine ⟨bot_lt_top, fun i hi => ?_⟩
    obtain ⟨k, rfl⟩ := (drop_row h a i).1 (Finset.mem_filter.1 hi).2
    obtain ⟨r, hr⟩ := hX k
    rw [hr]
    exact EReal.coe_lt_top r
  exact ⟨_, (EReal.coe_toReal hi.ne lo.ne').symm⟩

/-- The arg-max of a row of values above minus infinity, each position labelled by its number: the label of the first
    largest. -/
theorem argReduce_first (f : Ideal .f32 × BitVec 32 → Ideal .f32 × BitVec 32 → Ideal .f32 × BitVec 32)
    (hf : ∀ p q, (f p q = p ∨ f p q = q) ∧ Beats (f p q) p ∧ Beats (f p q) q)
    (P : FVec Ideal (Tab n) .f32) (I : IVec (Tab n) 32) (ix : u.Idx → Ideal .f32) (iy : u.Idx → BitVec 32)
    (hix : ∀ i, ix i = ⊥) (h : (Tab n).ReducesTo [1] (Sh n)) (hu : 0 < u.numel) (a : Fin n)
    (R : (Sh n).Idx → Ideal .f32 × BitVec 32) (hR : R = Host.argReduce f P I ix iy h hu) (x : ℕ → EReal) (hx : ∀ k : Fin 8, P (ix2 a k) = x k.val) (hI : ∀ k : Fin 8, I (ix2 a k) = BitVec.ofNat 32 k.val) (hb : ∀ k < 8, ⊥ < x k) :
    ∃ i, First x 0 8 i ∧ (R (ix1 a)).2 = BitVec.ofNat 32 i := by
  rw [hR, Ideal.argReduce_eq_reduce2, Host.reduce2_eq_foldl_fiber]
  have mem : ∀ q, q ∈ Host.argReduceFiber P I h (ix1 a) ↔ ∃ k : Fin 8, q = (x k.val, BitVec.ofNat 32 k.val) := fun q => by
    unfold Host.argReduceFiber
    rw [List.mem_map]
    constructor
    · rintro ⟨m, hm, rfl⟩
      obtain ⟨k, hk⟩ := (drop_row h a _).1 (of_decide_eq_true (List.mem_filter.1 hm).2)
      exact ⟨k, by rw [← hk, hx, hI]⟩
    · rintro ⟨k, rfl⟩
      refine ⟨(Tab n).rowMajor (ix2 a k), List.mem_filter.2 ⟨List.mem_finRange _, decide_eq_true ?_⟩, ?_⟩
      · rw [Equiv.symm_apply_apply]
        exact (drop_row h a _).2 ⟨k, rfl⟩
      · rw [Equiv.symm_apply_apply, hx, hI]
  obtain ⟨h1, _, h3⟩ := foldl_beats f hf (Host.argReduceFiber P I h (ix1 a)) (ix (Shape.Idx.first hu), iy (Shape.Idx.first hu))
  have hin : (Host.argReduceFiber P I h (ix1 a)).foldl f (ix (Shape.Idx.first hu), iy (Shape.Idx.first hu)) ∈ Host.argReduceFiber P I h (ix1 a) := by
    rcases h1 with h1 | h1
    · exfalso
      have b := h3 _ ((mem _).2 ⟨0, rfl⟩)
      rw [h1, hix] at b
      have l := hb 0 (by omega)
      rcases b with b | ⟨b, _⟩
      · exact absurd b (not_lt.2 bot_le)
      · exact absurd b l.ne'
    · exact h1
  obtain ⟨k, hk⟩ := (mem _).1 hin
  refine ⟨k.val, first_of_beats k.isLt fun l hl => ?_, by rw [hk]⟩
  have b := h3 _ ((mem _).2 ⟨⟨l, hl⟩, rfl⟩)
  rwa [hk] at b

end Cert.Proof.Hist

end
-- ==== Proof.RefRun.lean ====
/- The reference's run: its operations in order, block by block, and what each block leaves as a function of what it reads. -/
module

public import proofs.«01_k».proof.Defs
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The operations -/

/-- The softmax of the scores. -/
abbrev softOps : List (HloOp τ sig (Elt F)) :=
  [ nullary main_cst (constant S_ .f32 0xFF800000#32),
    binary main_arg0 main_cst main_v0 (fun x v => Host.reduce FloatOps.maximumf x v reducesTo_S1000000x8_S1000000_d1 h_S_),
    nullary main_cst_0 (constant S_ .f32 0xFF800000#32),
    unary main_cst_0 main_v1 (broadcastInDim S1000000 ![] bcast_S_S1000000),
    binary main_v1 main_v0 main_v2 maximumf,
    unary main_v2 main_v3 (broadcastInDim S1000000x1 ![0] bcast_S1000000_S1000000x1_0),
    unary main_v3 main_v4 (broadcastInDim S1000000x8 ![0, 1] bcast_S1000000x1_S1000000x8_0_1),
    binary main_arg0 main_v4 main_v5 subf,
    unary main_v5 main_v6 Host.exp,
    nullary main_cst_1 (constant S_ .f32 0x00000000#32),
    binary main_v6 main_cst_1 main_v7 (fun x v => Host.reduceAdd x v reducesTo_S1000000x8_S1000000_d1 h_S_),
    unary main_v7 main_v8 (broadcastInDim S1000000x1 ![0] bcast_S1000000_S1000000x1_0),
    unary main_v8 main_v9 (broadcastInDim S1000000x8 ![0, 1] bcast_S1000000x1_S1000000x8_0_1),
    binary main_v6 main_v9 main_v10 Host.divf ]

/-- The arg-max of a row, its value and its index. -/
abbrev argOps : List (HloOp τ sig (Elt F)) :=
  [ nullary main_call0_v0 (iotaInDim S1000000x8 32 1),
    nullary main_call0_cst (constant S_ .f32 0xFF800000#32),
    nullary main_call0_c (constantI S_ 32 0#32),
    quaternary main_v10 main_call0_v0 main_call0_cst main_call0_c main_call0_v1_0 (fun x y u v j => (Host.argReduce reducer_argmax_f32_i32 x y u v reducesTo_S1000000x8_S1000000_d1 h_S_ j).1),
    quaternary main_v10 main_call0_v0 main_call0_cst main_call0_c main_v11 (fun x y u v j => (Host.argReduce reducer_argmax_f32_i32 x y u v reducesTo_S1000000x8_S1000000_d1 h_S_ j).2) ]

/-- The bin of each row: eight times the target and the arg-max, clipped at zero and wrapped. -/
abbrev binOps : List (HloOp τ sig (Elt F)) :=
  [ nullary main_c (constantI S_ 32 8#32),
    unary main_c main_v12 (broadcastInDim S1000000 ![] bcast_S_S1000000),
    binary main_arg1 main_v12 main_v13 muli,
    binary main_v13 main_v11 main_v14 addi,
    nullary main_c_2 (constantI S_ 32 0#32),
    unary main_c_2 main_v15 (broadcastInDim S64 ![] bcast_S_S64),
    nullary main_c_3 (constantI S_ 32 0#32),
    unary main_c_3 main_call1_v0 id,
    unary main_call1_v0 main_call1_v1 (broadcastInDim S1000000 ![] bcast_S_S1000000),
    binary main_call1_v1 main_v14 main_v16 maxsi,
    nullary main_c_4 (constantI S_ 32 0#32),
    unary main_c_4 main_v17 (broadcastInDim S1000000 ![] bcast_S_S1000000),
    binary main_v16 main_v17 main_v18 (cmpi .slt),
    nullary main_c_5 (constantI S_ 32 64#32),
    unary main_c_5 main_v19 (broadcastInDim S1000000 ![] bcast_S_S1000000),
    binary main_v16 main_v19 main_v20 addi,
    ternary main_v18 main_v20 main_v16 main_v21 select,
    unary main_v21 main_v22 (broadcastInDim S1000000x1 ![0] bcast_S1000000_S1000000x1_0) ]

/-- The bins counted, over the number of rows. -/
abbrev tableOps : List (HloOp τ sig (Elt F)) :=
  [ nullary main_c_6 (constantI S_ 32 1#32),
    unary main_c_6 main_v23 (broadcastInDim S1000000 ![] bcast_S_S1000000),
    ternary main_v15 main_v22 main_v23 main_v24 (fun x i u => Host.scatter scatter_S64_S1000000x1_S1000000_n_0_0_1 IntOp.addi x i u),
    reshape main_v24 main_v25 rfl shapeCasts_S64_S8x8,
    unary main_v25 main_v26 (sitofp .f32),
    nullary main_cst_7 (constant S_ .f32 0x49742400#32),
    unary main_cst_7 main_v27 (broadcastInDim S8x8 ![] bcast_S_S8x8),
    binary main_v26 main_v27 main_v28 Host.divf ]

/-- The outer product of the table's row sums and column sums. -/
abbrev margOps : List (HloOp τ sig (Elt F)) :=
  [ nullary main_cst_8 (constant S_ .f32 0x00000000#32),
    binary main_v28 main_cst_8 main_v29 (fun x v => Host.reduceAdd x v reducesTo_S8x8_S8_d1 h_S_),
    nullary main_cst_9 (constant S_ .f32 0x00000000#32),
    binary main_v28 main_cst_9 main_v30 (fun x v => Host.reduceAdd x v reducesTo_S8x8_S8_d0 h_S_),
    unary main_v29 main_v31 (broadcastInDim S8x1 ![0] bcast_S8_S8x1_0),
    unary main_v30 main_v32 (broadcastInDim S1x8 ![1] bcast_S8_S1x8_1),
    unary main_v31 main_v33 (broadcastInDim S8x8 ![0, 1] bcast_S8x1_S8x8_0_1),
    unary main_v32 main_v34 (broadcastInDim S8x8 ![0, 1] bcast_S1x8_S8x8_0_1),
    binary main_v33 main_v34 main_v35 mulf ]

/-- The weights. -/
abbrev weightOps : List (HloOp τ sig (Elt F)) :=
  [ nullary main_v36 (sitofp .f32 (iotaInDim S8 32 0)),
    unary main_v36 main_v37 (broadcastInDim S8x8 ![0] bcast_S8_S8x8_0),
    unary main_v36 main_v38 (broadcastInDim S8x8 ![1] bcast_S8_S8x8_1),
    binary main_v37 main_v38 main_v39 subf,
    binary main_v39 main_v39 main_v40 mulf,
    nullary main_cst_10 (constant S_ .f32 0x42440000#32),
    unary main_cst_10 main_v41 (broadcastInDim S8x8 ![] bcast_S_S8x8),
    binary main_v40 main_v41 main_v42 Host.divf,
    nullary main_cst_11 (constant S_ .f32 0x3F800000#32),
    unary main_cst_11 main_v43 (broadcastInDim S8x8 ![] bcast_S_S8x8),
    binary main_v43 main_v42 main_v44 subf ]

/-- The two weighted sums. -/
abbrev sumOps : List (HloOp τ sig (Elt F)) :=
  [ binary main_v44 main_v28 main_v45 mulf,
    nullary main_cst_12 (constant S_ .f32 0x00000000#32),
    binary main_v45 main_cst_12 main_v46 (fun x v => Host.reduceAdd x v reducesTo_S8x8_S_d0_1 h_S_),
    binary main_v44 main_v35 main_v47 mulf,
    nullary main_cst_13 (constant S_ .f32 0x00000000#32),
    binary main_v47 main_cst_13 main_v48 (fun x v => Host.reduceAdd x v reducesTo_S8x8_S_d0_1 h_S_) ]

/-- The clipped score, and one minus it. -/
abbrev scoreOps : List (HloOp τ sig (Elt F)) :=
  [ nullary main_cst_14 (constant S_ .f32 0x00000000#32),
    nullary main_cst_15 (constant S_ .f32 0x3F7FFFFE#32),
    unary main_cst_14 main_call2_v0 id,
    binary main_call2_v0 main_v48 main_call2_v1 maximumf,
    unary main_cst_15 main_call2_v2 id,
    binary main_call2_v2 main_call2_v1 main_v49 minimumf,
    nullary main_cst_16 (constant S_ .f32 0x3F7FFFFE#32),
    binary main_v49 main_cst_16 main_v50 (cmpf .oge),
    binary main_v46 main_v49 main_v51 subf,
    nullary main_cst_17 (constant S_ .f32 0x3F800000#32),
    binary main_cst_17 main_v49 main_v52 subf,
    nullary main_cst_18 (constant S_ .f32 0x33D6BF95#32),
    binary main_v52 main_cst_18 main_v53 addf,
    binary main_v51 main_v53 main_v54 Host.divf,
    nullary main_cst_19 (constant S_ .f32 0x00000000#32),
    unary main_cst_19 main_call3_v0 id,
    ternary main_v50 main_call3_v0 main_v54 main_v55 select,
    nullary main_cst_20 (constant S_ .f32 0xBF800000#32),
    nullary main_cst_21 (constant S_ .f32 0x3F800000#32),
    unary main_cst_20 main_call4_v0 id,
    binary main_call4_v0 main_v55 main_call4_v1 maximumf,
    unary main_cst_21 main_call4_v2 id,
    binary main_call4_v2 main_call4_v1 main_v56 minimumf,
    nullary main_cst_22 (constant S_ .f32 0x3F800000#32),
    binary main_cst_22 main_v56 main_v57 subf ]

/-- All the operations, in order. -/
abbrev ops : List (HloOp τ sig (Elt F)) := softOps ++ (argOps ++ (binOps ++ (tableOps ++ (margOps ++ (weightOps ++ (sumOps ++ scoreOps))))))

set_option maxHeartbeats 4000000 in
/-- @main is that straight line. -/
theorem main_eq (c : Dev nD) : main (F := F) c = seq ops := rfl

/-! ## What each block computes -/

/-- The largest score of a row, along its row. -/
def rowMax (X : FVec F S1000000x8 .f32) : FVec F S1000000x8 .f32 :=
  broadcastInDim S1000000x8 ![0, 1] bcast_S1000000x1_S1000000x8_0_1 (broadcastInDim S1000000x1 ![0] bcast_S1000000_S1000000x1_0
    (maximumf (broadcastInDim S1000000 ![] bcast_S_S1000000 (constant S_ .f32 0xFF800000#32))
      (Host.reduce FloatOps.maximumf X (constant S_ .f32 0xFF800000#32) reducesTo_S1000000x8_S1000000_d1 h_S_)))

/-- The exponentials of the scores, each less its row's largest. -/
def expo (X : FVec F S1000000x8 .f32) : FVec F S1000000x8 .f32 := Host.exp (subf X (rowMax X))

/-- A row's exponentials summed, along its row. -/
def rowSum (E : FVec F S1000000x8 .f32) : FVec F S1000000x8 .f32 :=
  broadcastInDim S1000000x8 ![0, 1] bcast_S1000000x1_S1000000x8_0_1 (broadcastInDim S1000000x1 ![0] bcast_S1000000_S1000000x1_0
    (Host.reduceAdd E (constant S_ .f32 0x00000000#32) reducesTo_S1000000x8_S1000000_d1 h_S_))

/-- The softmax. -/
def soft (X : FVec F S1000000x8 .f32) : FVec F S1000000x8 .f32 := Host.divf (expo X) (rowSum (expo X))

/-- The largest value of each row with its position. -/
def best (P : FVec F S1000000x8 .f32) : S1000000.Idx → F .f32 × BitVec 32 :=
  Host.argReduce reducer_argmax_f32_i32 P (iotaInDim S1000000x8 32 1) (constant S_ .f32 0xFF800000#32) (constantI S_ 32 0#32) reducesTo_S1000000x8_S1000000_d1 h_S_

/-- The arg-max of each row. -/
def argmax (P : FVec F S1000000x8 .f32) : IVec S1000000 32 := fun j => (best P j).2

/-- The bin of each row, before it is wrapped. -/
def clipped (Y A : IVec S1000000 32) : IVec S1000000 32 :=
  maxsi (broadcastInDim S1000000 ![] bcast_S_S1000000 (constantI S_ 32 0#32))
    (addi (muli Y (broadcastInDim S1000000 ![] bcast_S_S1000000 (constantI S_ 32 8#32))) A)

/-- The bins as indices of the table: a negative one counted from its end. -/
def wrapped (Z : IVec S1000000 32) : IVec S1000000x1 32 :=
  broadcastInDim S1000000x1 ![0] bcast_S1000000_S1000000x1_0
    (select (cmpi .slt Z (broadcastInDim S1000000 ![] bcast_S_S1000000 (constantI S_ 32 0#32)))
      (addi Z (broadcastInDim S1000000 ![] bcast_S_S1000000 (constantI S_ 32 64#32))) Z)

/-- An empty table of 64 bins. -/
def zeros : IVec S64 32 := broadcastInDim S64 ![] bcast_S_S64 (constantI S_ 32 0#32)

/-- The bins counted into a table. -/
def bincount (Z : IVec S64 32) (I : IVec S1000000x1 32) : IVec S64 32 :=
  Host.scatter scatter_S64_S1000000x1_S1000000_n_0_0_1 IntOp.addi Z I (broadcastInDim S1000000 ![] bcast_S_S1000000 (constantI S_ 32 1#32))

/-- A table of counts over the number of rows. -/
def shares (N : IVec S64 32) : FVec F S8x8 .f32 :=
  Host.divf (sitofp .f32 (shapeCast S8x8 N shapeCasts_S64_S8x8)) (broadcastInDim S8x8 ![] bcast_S_S8x8 (constant S_ .f32 0x49742400#32))

/-- The outer product of a table's row sums and column sums. -/
def outer (C : FVec F S8x8 .f32) : FVec F S8x8 .f32 :=
  mulf (broadcastInDim S8x8 ![0, 1] bcast_S8x1_S8x8_0_1 (broadcastInDim S8x1 ![0] bcast_S8_S8x1_0 (Host.reduceAdd C (constant S_ .f32 0x00000000#32) reducesTo_S8x8_S8_d1 h_S_)))
    (broadcastInDim S8x8 ![0, 1] bcast_S1x8_S8x8_0_1 (broadcastInDim S1x8 ![1] bcast_S8_S1x8_1 (Host.reduceAdd C (constant S_ .f32 0x00000000#32) reducesTo_S8x8_S8_d0 h_S_)))

/-- The difference of a cell's row and column. -/
def gap : FVec F S8x8 .f32 :=
  subf (broadcastInDim S8x8 ![0] bcast_S8_S8x8_0 (sitofp .f32 (iotaInDim S8 32 0))) (broadcastInDim S8x8 ![1] bcast_S8_S8x8_1 (sitofp .f32 (iotaInDim S8 32 0)))

/-- The weights. -/
def weights : FVec F S8x8 .f32 :=
  subf (broadcastInDim S8x8 ![] bcast_S_S8x8 (constant S_ .f32 0x3F800000#32))
    (Host.divf (mulf gap gap) (broadcastInDim S8x8 ![] bcast_S_S8x8 (constant S_ .f32 0x42440000#32)))

/-- A table weighted and summed. -/
def weighted (W C : FVec F S8x8 .f32) : FVec F S_ .f32 := Host.reduceAdd (mulf W C) (constant S_ .f32 0x00000000#32) reducesTo_S8x8_S_d0_1 h_S_

/-- A number clipped from below and above. -/
def clip (x lo hi : FVec F S_ .f32) : FVec F S_ .f32 := minimumf hi (maximumf lo x)

/-- The expected agreement, clipped. -/
def expected (pe : FVec F S_ .f32) : FVec F S_ .f32 := clip pe (constant S_ .f32 0x00000000#32) (constant S_ .f32 0x3F7FFFFE#32)

/-- The score of an observed and a clipped expected agreement. -/
def kappa (po pe : FVec F S_ .f32) : FVec F S_ .f32 :=
  select (cmpf .oge pe (constant S_ .f32 0x3F7FFFFE#32)) (constant S_ .f32 0x00000000#32)
    (Host.divf (subf po pe) (addf (subf (constant S_ .f32 0x3F800000#32) pe) (constant S_ .f32 0x33D6BF95#32)))

/-- One minus the clipped score. -/
def score (po pe : FVec F S_ .f32) : FVec F S_ .f32 :=
  subf (constant S_ .f32 0x3F800000#32) (clip (kappa po (expected pe)) (constant S_ .f32 0xBF800000#32) (constant S_ .f32 0x3F800000#32))

/-! ## The blocks, one by one -/

section Blocks

variable (V : Valuation τ sig (Elt F))

theorem soft_v10 : after softOps V (main_v10 : DevRef τ sig) = soft (V (main_arg0 : DevRef τ sig)) := by
  after_results
  rfl
theorem soft_arg1 : after softOps V (main_arg1 : DevRef τ sig) = V (main_arg1 : DevRef τ sig) := by
  after_results

theorem arg_v11 : after argOps V (main_v11 : DevRef τ sig) = argmax (F := F) (V (main_v10 : DevRef τ sig)) := by
  after_results
  rfl
theorem arg_arg1 : after (argOps (F := F)) V (main_arg1 : DevRef τ sig) = V (main_arg1 : DevRef τ sig) := by
  after_results

theorem bin_v22 : after binOps V (main_v22 : DevRef τ sig) = wrapped (clipped (V (main_arg1 : DevRef τ sig)) (V (main_v11 : DevRef τ sig))) := by
  after_results
  rfl
theorem bin_v15 : after binOps V (main_v15 : DevRef τ sig) = zeros := by
  after_results
  rfl

theorem table_v28 : after tableOps V (main_v28 : DevRef τ sig) = shares (F := F) (bincount (V (main_v15 : DevRef τ sig)) (V (main_v22 : DevRef τ sig))) := by
  after_results
  rfl

theorem marg_v35 : after margOps V (main_v35 : DevRef τ sig) = outer (F := F) (V (main_v28 : DevRef τ sig)) := by
  after_results
  rfl
theorem marg_v28 : after (margOps (F := F)) V (main_v28 : DevRef τ sig) = V (main_v28 : DevRef τ sig) := by
  after_results

theorem weight_v44 : after weightOps V (main_v44 : DevRef τ sig) = weights (F := F) := by
  after_results
  rfl
theorem weight_v28 : after (weightOps (F := F)) V (main_v28 : DevRef τ sig) = V (main_v28 : DevRef τ sig) := by
  after_results
theorem weight_v35 : after (weightOps (F := F)) V (main_v35 : DevRef τ sig) = V (main_v35 : DevRef τ sig) := by
  after_results

theorem sum_v46 : after sumOps V (main_v46 : DevRef τ sig) = weighted (F := F) (V (main_v44 : DevRef τ sig)) (V (main_v28 : DevRef τ sig)) := by
  after_results
  rfl
theorem sum_v48 : after sumOps V (main_v48 : DevRef τ sig) = weighted (F := F) (V (main_v44 : DevRef τ sig)) (V (main_v35 : DevRef τ sig)) := by
  after_results
  rfl

theorem score_v57 : after scoreOps V (main_v57 : DevRef τ sig) = score (F := F) (V (main_v46 : DevRef τ sig)) (V (main_v48 : DevRef τ sig)) := by
  after_results
  rfl

theorem after_two (a b : List (HloOp τ sig (Elt F))) : after (a ++ b) V = after b (after a V) := by
  induction a generalizing V with
  | nil => rfl
  | cons op l ih => exact ih _

/-- The table of the reference. -/
def conf (X : FVec F S1000000x8 .f32) (Y : IVec S1000000 32) : FVec F S8x8 .f32 :=
  shares (bincount zeros (wrapped (clipped Y (argmax (soft X)))))

/-- The reference's result. -/
def out (X : FVec F S1000000x8 .f32) (Y : IVec S1000000 32) : FVec F S_ .f32 :=
  score (weighted weights (conf X Y)) (weighted weights (outer (conf X Y)))

theorem ops_v57 : after ops V (main_v57 : DevRef τ sig) = out (F := F) (V (main_arg0 : DevRef τ sig)) (V (main_arg1 : DevRef τ sig)) := by
  unfold ops
  rw [after_two, after_two, after_two, after_two, after_two, after_two, after_two, score_v57, sum_v46, sum_v48, weight_v44, weight_v28, weight_v35, marg_v35, marg_v28,
    table_v28, bin_v15, bin_v22, arg_v11, arg_arg1, soft_v10, soft_arg1]
  rfl

/-- The arguments written by no operation. -/
theorem ops_arg (b : Ref sig .tc) (hb : b = main_arg0 ∨ b = main_arg1) : after (ops (F := F)) V (b : DevRef τ sig) = V (b : DevRef τ sig) := by
  unfold ops
  rw [after_two, after_two, after_two, after_two, after_two, after_two, after_two]
  rcases hb with rfl | rfl <;> after_results

end Blocks

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  simp only [ops, List.forall_append, List.forall_cons, nullary_bufs_sub, unary_bufs_sub, binary_bufs_sub, ternary_bufs_sub, quaternary_bufs_sub, reshape_bufs_sub, List.Forall, and_self]

/-- Every run of the reference ends with its result at `out` of the arguments, and the arguments as launched. -/
theorem run (m : (ℓ : Loc nD τ sig) → Buf (Elt F) ℓ) (ρ : Dev nD → PrngReg) :
    θ_run (defs (F := F)) (onTc (τ := τ) (main (F := F))) ⟨m, fun _ => 0, ρ⟩ fun r => ∀ d : Dev nD,
      r.2.mem ((d.tc : Thread nD τ).loc main_v57) = (out (F := F) (m ((d.tc : Thread nD τ).loc main_arg0)) (m ((d.tc : Thread nD τ).loc main_arg1)) : Buf (Elt F) ((d.tc : Thread nD τ).loc main_v57))
        ∧ r.2.mem ((d.tc : Thread nD τ).loc main_arg0) = m ((d.tc : Thread nD τ).loc main_arg0)
        ∧ r.2.mem ((d.tc : Thread nD τ).loc main_arg1) = m ((d.tc : Thread nD τ).loc main_arg1) :=
  (θ_run defs _ _).mono (fun _ h d => ⟨(h d main_v57).trans (ops_v57 _), (h d main_arg0).trans (ops_arg _ _ (Or.inl rfl)), (h d main_arg1).trans (ops_arg _ _ (Or.inr rfl))⟩)
    (run_seq scopedRefs_eq scopedSems_eq defs main (fun _ => ops) main_eq (fun _ => ops_sub) m ρ)

end Cert.Proof.Ref

end
-- ==== Proof.RefArgmax.lean ====
/- The reference's prediction: softmax keeps the order of a row of numbers, so its arg-max is the first largest score, which
   is what the tournament of pairs names. -/
module

public import proofs.«01_k».proof.Proof.RowFacts
public import proofs.«01_k».proof.Proof.RefRun

@[expose] public section

noncomputable section

namespace Cert.Proof.Ref

open Cert.ReferenceIdeal Cert.ReferenceIdeal.Gen Cert.Proof.Hist
open Idealize.ShloMosaic

/-- The reducer keeps the better of two pairs. -/
theorem reducer_beats (p q : Ideal .f32 × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨x, i⟩ := p
  obtain ⟨y, j⟩ := q
  unfold reducer_argmax_f32_i32
  simp only [Ideal.cmpf_def, Ideal.cmp, Scalar.select, IntOp.cmpi, IntOp.ori, IntOp.andi, Beats]
  rcases lt_trichotomy x y with e | e | e
  · simp [e, e.ne, not_lt.2 e.le]
  · subst e
    by_cases s : i.slt j
    · have s' := s
      rw [BitVec.slt_iff_toInt_lt] at s'
      simp [s, s'.le]
    · have s' := s
      rw [BitVec.slt_iff_toInt_lt, not_lt] at s'
      simp [s, s']
  · simp [e, e.ne', not_lt.2 e.le]

theorem ofBits_bot : Ideal.ofBits .f32 0xFF800000#32 = ⊥ := by simp [Ideal.ofBits, Ideal.ieee]

/-- A vector of numbers, none below minus infinity, put along the rows. -/
theorem along_apply (R : FVec Ideal S1000000 .f32) (a : Fin 1000000) (k : Fin 8) :
    broadcastInDim S1000000x8 ![0, 1] bcast_S1000000x1_S1000000x8_0_1 (broadcastInDim S1000000x1 ![0] bcast_S1000000_S1000000x1_0
      (maximumf (broadcastInDim S1000000 ![] bcast_S_S1000000 (constant S_ .f32 0xFF800000#32)) R)) (ix2 a k)
      = max (Ideal.ofBits .f32 0xFF800000#32) (R (ix1 a)) := by
  pointwise

theorem constant_bot (i : S_.Idx) : constant (F := Ideal) S_ .f32 0xFF800000#32 i = ⊥ := ofBits_bot

/-- A row's largest score is one number, along a row of numbers. -/
theorem rowMax_real (X : FVec Ideal S1000000x8 .f32) (hX : ∀ i, ∃ r : ℝ, X i = (r : EReal)) (a : Fin 1000000) :
    ∃ r : ℝ, ∀ k : Fin 8, rowMax (F := Ideal) X (ix2 a k) = (r : EReal) := by
  obtain ⟨r, hr⟩ := reduce_max_real (n := 1000000) (u := S_) X (constant S_ .f32 0xFF800000#32) constant_bot reducesTo_S1000000x8_S1000000_d1 h_S_ a
    fun k => hX _
  refine ⟨r, fun k => (along_apply _ a k).trans ?_⟩
  rw [ofBits_bot]
  exact (max_eq_right bot_le).trans hr

/-- A row's values summed, along the row. -/
theorem rowSum_apply (E : FVec Ideal S1000000x8 .f32) (a : Fin 1000000) (k : Fin 8) : rowSum (F := Ideal) E (ix2 a k) = ∑ l : Fin 8, E (ix2 a l) := by
  unfold rowSum
  pointwise

/-- The sum of numbers is a number. -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S h ih => rw [Finset.sum_insert h, Finset.sum_insert h, ih, EReal.coe_add]

theorem hostDivf_apply {s : Shape} (A B : FVec Ideal s .f32) (i : s.Idx) : Host.divf A B i = Ideal.div (A i) (B i) := rfl

/-- The softmax of a row of numbers: their exponentials, each less one number, over one positive number. -/
theorem soft_row (X : FVec Ideal S1000000x8 .f32) (f : S1000000x8.Idx → ℝ) (hf : ∀ i, X i = (f i : EReal)) (a : Fin 1000000) :
    ∃ M S : ℝ, 0 < S ∧ ∀ k : Fin 8, soft (F := Ideal) X (ix2 a k) = ((Real.exp (f (ix2 a k) - M) / S : ℝ) : EReal) := by
  obtain ⟨M, hM⟩ := rowMax_real X (fun i => ⟨f i, hf i⟩) a
  have hE : ∀ k : Fin 8, expo (F := Ideal) X (ix2 a k) = ((Real.exp (f (ix2 a k) - M) : ℝ) : EReal) := fun k => by
    unfold expo
    pointwise
    rw [hM, hf, ← EReal.coe_sub]
    rfl
  have hS : 0 < ∑ l : Fin 8, Real.exp (f (ix2 a l) - M) := Finset.sum_pos (fun _ _ => Real.exp_pos _) ⟨0, Finset.mem_univ _⟩
  refine ⟨M, ∑ l : Fin 8, Real.exp (f (ix2 a l) - M), hS, fun k => ?_⟩
  unfold soft
  rw [hostDivf_apply, rowSum_apply, hE, Finset.sum_congr rfl fun l _ => hE l, sum_coe]
  unfold Ideal.div
  rw [if_neg (by exact_mod_cast hS.ne'), ← EReal.coe_inv, ← EReal.coe_mul, div_eq_mul_inv]

/-- The second components of a vector of pairs, read at an index. -/
theorem snd_congr {ι α β : Type} (A : ι → β) (B : ι → α × β) (h : A = fun j => (B j).2) (j : ι) : A j = (B j).2 := congrFun h j

theorem best_eq (P : FVec Ideal S1000000x8 .f32) : best (F := Ideal) P
    = Host.argReduce (reducer_argmax_f32_i32 (F := Ideal)) P (iotaInDim S1000000x8 32 1) (constant S_ .f32 0xFF800000#32) (constantI S_ 32 0#32) reducesTo_S1000000x8_S1000000_d1 h_S_ := by
  delta best; exact rfl

theorem argmax_apply (P : FVec Ideal S1000000x8 .f32) (j : S1000000.Idx) : argmax (F := Ideal) P j = (best (F := Ideal) P j).2 :=
  snd_congr _ _ (by delta argmax; exact rfl) j

theorem iota_apply (a : Fin 1000000) (k : Fin 8) : iotaInDim S1000000x8 32 1 (ix2 a k) = BitVec.ofNat 32 k.val := by pointwise

/-- The arg-max of the softmax of a row of numbers is the tournament's winner. -/
theorem argmax_soft (X : FVec Ideal S1000000x8 .f32) (hX : ∀ i, ∃ r : ℝ, X i = (r : EReal)) (a : Fin 1000000) (x : ℕ → EReal)
    (hx : ∀ k : Fin 8, X (ix2 a k) = x k.val) : argmax (F := Ideal) (soft (F := Ideal) X) (ix1 a) = pred8 (F := Ideal) x := by
  choose f hf using hX
  obtain ⟨M, S, hS, hsoft⟩ := soft_row X f hf a
  let y : ℕ → EReal := fun k => ((Real.exp ((x k).toReal - M) / S : ℝ) : EReal)
  have hxr : ∀ k < 8, x k = ((x k).toReal : EReal) := fun k hk => by
    have := hx ⟨k, hk⟩
    rw [← show x k = x (⟨k, hk⟩ : Fin 8).val from rfl] at this
    rw [← this, hf, EReal.toReal_coe]
  have hy : ∀ k : Fin 8, soft (F := Ideal) X (ix2 a k) = y k.val := fun k => by
    show _ = ((Real.exp ((x k.val).toReal - M) / S : ℝ) : EReal)
    rw [hsoft, ← hx, hf, EReal.toReal_coe]
  obtain ⟨i, hi, e⟩ := argReduce_first (n := 1000000) (u := S_) (reducer_argmax_f32_i32 (F := Ideal)) reducer_beats (soft (F := Ideal) X) (iotaInDim S1000000x8 32 1)
    (constant S_ .f32 0xFF800000#32) (constantI S_ 32 0#32) constant_bot reducesTo_S1000000x8_S1000000_d1 h_S_ a (best (F := Ideal) (soft (F := Ideal) X)) (best_eq _) y hy (iota_apply a)
    fun k _ => EReal.bot_lt_coe _
  have h : First x 0 8 i := hi.congr fun j k hj hk => by
    show ((Real.exp ((x j).toReal - M) / S : ℝ) : EReal) < ((Real.exp ((x k).toReal - M) / S : ℝ) : EReal) ↔ _
    rw [hxr j hj, hxr k hk, EReal.coe_lt_coe_iff, EReal.coe_lt_coe_iff, div_lt_div_iff_of_pos_right hS, Real.exp_lt_exp, EReal.toReal_coe, EReal.toReal_coe,
      sub_lt_sub_iff_right]
  rw [argmax_apply, pred8_eq h]
  exact e

end Cert.Proof.Ref

end
-- ==== Proof.ScatterOnes.lean ====
/- Ones added at `n` indices into a vector of `N` words: every element grows by the number of indices that name it. -/
module

public import proofs.«01_k».proof.Proof.Hist
public import Idealize.ShloMosaic.Lib.Pointwise
public import Idealize.ShloMosaic.Lib.Routing.OpsPair

@[expose] public section

noncomputable section

namespace Cert.Proof.Hist

open Idealize.ShloMosaic

variable {n N : ℕ}

/-- An update with one index word lands at the element whose number, as a signed integer, that word is. -/
theorem lands_at (d : ScatterDims (Sh N) ⟨2, ![n, 1]⟩ (Sh n)) (hw : d.insertedWindowDims = [0]) (hs : d.scatterDimsToOperandDims = [0])
    (hv : d.indexVectorDim = 1) (I : IVec ⟨2, ![n, 1]⟩ 32) (i : Fin n) (x : Fin N) :
    d.resultIdx? (ix1 i) I = some (ix1 x) ↔ (I (ix2 i 0)).toInt = (x.val : ℤ) := by
  have mem : (0 : Fin 1) ∈ d.scatterDimsToOperandDims := hs ▸ List.mem_singleton.2 rfl
  have win : d.window (ix1 i) 0 = 0 := by
    unfold ScatterDims.window
    refine dif_neg fun h => ?_
    have h' := of_decide_eq_true (List.mem_filter.1 h).2
    exact h' (hw ▸ List.mem_singleton.2 rfl)
  have at_ : d.siIdx (ix1 i) ⟨d.scatterDimsToOperandDims.idxOf 0, List.idxOf_lt_length_iff.2 mem⟩ = ix2 i 0 := by
    funext a
    apply Fin.ext
    match a with
    | ⟨0, _⟩ =>
      unfold ScatterDims.siIdx
      rw [dif_neg (by rw [hv]; exact Nat.zero_ne_one)]
      have one : ∀ c : Fin 1, (ix1 i c).val = i.val := fun c => by rw [Subsingleton.elim c 0]; rfl
      exact one _
    | ⟨1, _⟩ =>
      unfold ScatterDims.siIdx
      rw [dif_pos hv.symm]
      show List.idxOf (0 : Fin 1) d.scatterDimsToOperandDims = 0
      rw [hs]; rfl
  have start : d.start (ix1 i) I 0 = (I (ix2 i 0)).toInt := by
    unfold ScatterDims.start
    rw [dif_pos mem]
    exact congrArg (fun k => (I k).toInt) at_
  rw [Routing.resultIdx?_eq_some]
  constructor
  · intro h
    have h0 := h 0
    rw [start, win] at h0
    simpa using h0
  · intro h a
    match a with
    | ⟨0, _⟩ =>
      show d.start (ix1 i) I 0 + (d.window (ix1 i) 0 : ℤ) = (x.val : ℤ)
      rw [start, win, h]
      simp

/-- A walk that adds one word per step adds their sum. -/
theorem foldl_add {ι : Type} (L : List ι) (c : ι → BitVec 32) (a : BitVec 32) : L.foldl (fun r k => r + c k) a = a + (L.map c).sum := by
  induction L generalizing a with
  | nil => simp
  | cons k L ih => rw [List.foldl_cons, ih, List.map_cons, List.sum_cons, add_assoc]

/-- Ones added into a vector of zeros: element `x` is the number of indices whose word is `x`. -/
theorem scatter_ones (d : ScatterDims (Sh N) ⟨2, ![n, 1]⟩ (Sh n)) (hw : d.insertedWindowDims = [0]) (hs : d.scatterDimsToOperandDims = [0])
    (hv : d.indexVectorDim = 1) (Z : IVec (Sh N) 32) (hZ : ∀ x, Z x = 0#32) (I : IVec ⟨2, ![n, 1]⟩ 32) (U : IVec (Sh n) 32) (hU : ∀ i, U i = 1#32)
    (p : ℕ → ℕ) (hp : ∀ i : Fin n, (I (ix2 i 0)).toInt = (p i.val : ℤ)) (x : Fin N) :
    Host.scatter d IntOp.addi Z I U (ix1 x) = ∑ i ∈ Finset.range n, ind (p i) x.val := by
  rw [Routing.scatter_at, hZ]
  have step : (fun (a : BitVec 32) (m : Fin (Sh n).numel) =>
      if d.resultIdx? ((Sh n).rowMajor.symm m) I = some (ix1 x) then IntOp.addi a (U ((Sh n).rowMajor.symm m)) else a)
      = fun a m => a + (fun i : (Sh n).Idx => ind (p (i 0).val) x.val) ((Sh n).rowMajor.symm m) := by
    funext a m
    generalize (Sh n).rowMajor.symm m = i
    obtain ⟨k, rfl⟩ : ∃ k : Fin n, i = ix1 k := ⟨i 0, eq_ix1 i⟩
    have l := lands_at d hw hs hv I k x
    rw [hp] at l
    show _ = a + ind (p k.val) x.val
    unfold ind
    by_cases h : d.resultIdx? (ix1 k) I = some (ix1 x)
    · rw [if_pos h, hU, if_pos (by exact_mod_cast l.1 h)]
      rfl
    · rw [if_neg h, if_neg fun q => h (l.2 (by exact_mod_cast q))]
      simp
  rw [step, foldl_add, ← List.ofFn_eq_map, List.sum_ofFn, Equiv.sum_comp (Sh n).rowMajor.symm fun i : (Sh n).Idx => ind (p (i 0).val) x.val, sum_idx1,
    Finset.sum_range]
  exact zero_add _

end Cert.Proof.Hist

end
-- ==== Proof.RefCount.lean ====
/- The reference's table: a bin's count is the number of rows whose target and tournament winner name it. -/
module

public import proofs.«01_k».proof.Proof.RefArgmax
public import proofs.«01_k».proof.Proof.ScatterOnes
public import Idealize.ShloMosaic.Lib.Pipeline.Value

@[expose] public section

noncomputable section

namespace Cert.Proof.Hist

open Idealize.ShloMosaic

/-- A table of eight columns laid flat: column `k` of row `a` is element `8 a + k`. -/
theorem flat_row {α : Type} {n m : ℕ} (X : (Tab n).Idx → α) (h : (Tab n).ShapeCasts (Sh m)) (hm : 0 < m) (a : Fin n) (k : Fin 8)
    (hlt : 8 * a.val + k.val < m) : nat1 hm (shapeCast (Sh m) X h) (8 * a.val + k.val) = X (ix2 a k) := by
  unfold nat1
  refine shapeCast_apply X h _ (ix2 a k) ?_
  rw [Shape.rowMajor_val_one, Shape.rowMajor_val_two]
  show a.val * 8 + k.val = (8 * a.val + k.val) % m
  rw [Nat.mod_eq_of_lt hlt]
  ring

/-- Element `i` of a flat vector. -/
theorem nat1_ix1 {α : Type} {n : ℕ} (hn : 0 < n) (f : (Sh n).Idx → α) (i : Fin n) : nat1 hn f i.val = f (ix1 i) :=
  nat1_eq hn f (ix1 i)

/-- A number that is not negative as a signed word, compared with zero, wrapped from the end: itself. -/
theorem wrap_word (v : BitVec 32) (h : v.toNat < 64) :
    Scalar.select (IntOp.cmpi .slt (IntOp.maxsi 0#32 v) 0#32) (IntOp.addi (IntOp.maxsi 0#32 v) 64#32) (IntOp.maxsi 0#32 v) = v := by
  have t : v.toInt = v.toNat := BitVec.toInt_eq_toNat_of_lt (by omega)
  have e : IntOp.maxsi 0#32 v = v := by
    unfold IntOp.maxsi
    have : BitVec.toInt 0#32 = 0 := rfl
    by_cases q : v = 0#32
    · subst q; rfl
    · simp [BitVec.slt_iff_toInt_lt, t, this]
  rw [e]
  unfold Scalar.select IntOp.cmpi
  have : ¬ v.slt 0#32 := by
    rw [BitVec.slt_iff_toInt_lt, t]; simp
  simp [this]

end Cert.Proof.Hist

namespace Cert.Proof.Ref

open Cert.ReferenceIdeal Cert.ReferenceIdeal.Gen Cert.Proof.Hist
open Idealize.ShloMosaic

theorem wrapped_apply (Z : IVec S1000000 32) (i : Fin 1000000) :
    wrapped Z (ix2 i 0) = Scalar.select (IntOp.cmpi .slt (Z (ix1 i)) 0#32) (IntOp.addi (Z (ix1 i)) 64#32) (Z (ix1 i)) := by
  unfold wrapped
  pointwise

theorem clipped_apply (Y A : IVec S1000000 32) (i : Fin 1000000) : clipped Y A (ix1 i) = IntOp.maxsi 0#32 (Y (ix1 i) * 8#32 + A (ix1 i)) := by
  unfold clipped
  pointwise
  rfl

theorem ones_apply (i : S1000000.Idx) : broadcastInDim S1000000 ![] bcast_S_S1000000 (constantI S_ 32 1#32) i = 1#32 := by
  pointwise

theorem zeros_apply (i : S64.Idx) : zeros i = 0#32 := by
  unfold zeros
  pointwise

/-- A bin's count in the reference: the rows that name it. -/
theorem bincount_eq (X : FVec Ideal S1000000x8 .f32) (Y : IVec S1000000 32) (hX : ∀ i, ∃ r : ℝ, X i = (r : EReal)) (hY : ∀ j, (Y j).toNat < 8)
    (XF : ℕ → EReal) (TF : ℕ → BitVec 32) (hXF : ∀ (a : Fin 1000000) (k : Fin 8), XF (8 * a.val + k.val) = X (ix2 a k))
    (hTF : ∀ a : Fin 1000000, TF a.val = Y (ix1 a)) (b : Fin 64) :
    bincount zeros (wrapped (clipped Y (argmax (F := Ideal) (soft (F := Ideal) X)))) (ix1 b) = count (F := Ideal) XF TF 0 1000000 b.val := by
  unfold bincount Hist.count
  rw [Finset.sum_congr rfl fun r _ => by rw [Nat.zero_add]]
  refine scatter_ones (n := 1000000) (N := 64) _ rfl rfl rfl zeros zeros_apply _ _ ones_apply (bin (F := Ideal) XF TF) (fun i => ?_) b
  have hT : (TF i.val).toNat < 8 := by rw [hTF]; exact hY _
  have hb := bin_lt (F := Ideal) XF TF i.val hT
  have ha : argmax (F := Ideal) (soft (F := Ideal) X) (ix1 i) = pred8 (F := Ideal) fun j => XF (8 * i.val + j) :=
    argmax_soft X hX i _ fun k => (hXF i k).symm
  rw [wrapped_apply, clipped_apply, ha, ← hTF]
  unfold bin at hb ⊢
  rw [wrap_word _ hb]
  exact BitVec.toInt_eq_toNat_of_lt (by omega)

end Cert.Proof.Ref

end
-- ==== Proof.Score.lean ====
/- The kernel's epilogue and the reference's last steps: the same score of the same table. -/
module

public import proofs.«01_k».proof.Proof.KernelCount
public import proofs.«01_k».proof.Proof.IdealMain
public import proofs.«01_k».proof.Proof.RefCount

@[expose] public section

noncomputable section

namespace Cert.Proof.Score

open Cert.KernelIdeal Cert.KernelIdeal.Gen Cert.Proof.Hist
open Idealize.ShloMosaic

/-! ## The epilogue by its parts -/

/-- The counts added over the tiles, over the number of rows. -/
def shares (P : IVec S32x8x8 32) : FVec Ideal S8x8 .f32 :=
  mulf (multiReduction .add [0] S8x8 (sitofp .f32 (shapeCast S32x8x8 P shapeCasts_S32x8x8_S32x8x8)) 0x00000000#32 reduces_S32x8x8_S8x8 (.inl rfl) rfl)
    (broadcast S8x8 (Named.named κ "inv_n" 0x358637BD#32 : Ideal .f32))

/-- The outer product of a table's row sums and column sums. -/
def outer (C : FVec Ideal S8x8 .f32) : FVec Ideal S8x8 .f32 :=
  mulf (broadcastTo S8x8 (shapeCast S8x1 (multiReduction .add [1] S8 C 0x00000000#32 reduces_S8x8_S8 (.inl rfl) rfl) shapeCasts_S8_S8x1) broadcasts_S8x1_S8x8)
    (broadcastTo S8x8 (shapeCast S1x8 (multiReduction .add [0] S8 C 0x00000000#32 reduces_S8x8_S8_2 (.inl rfl) rfl) shapeCasts_S8_S1x8) broadcasts_S1x8_S8x8)

/-- The difference of a cell's row and column. -/
def gap : FVec Ideal S8x8 .f32 := subf (sitofp .f32 (iota .tc S8x8 32 [0] iota_S8x8_d0_w32)) (sitofp .f32 (iota .tc S8x8 32 [1] iota_S8x8_d1_w32))

/-- The weights. -/
def weights : FVec Ideal S8x8 .f32 :=
  subf (broadcast S8x8 (Scalar.ofBits .f32 0x3F800000#32)) (divf (mulf gap gap) (broadcast S8x8 (Scalar.ofBits .f32 0x42440000#32)))

/-- A table weighted and summed. -/
def weighted (W C : FVec Ideal S8x8 .f32) : Ideal .f32 :=
  extractAt ![0, 0, 0] (shapeCast S1x1x1 (multiReduction .add [1, 2] S1 (shapeCast S1x8x8 (mulf W C) shapeCasts_S8x8_S1x8x8) 0x00000000#32 reduces_S1x8x8_S1 (.inl rfl) rfl)
    shapeCasts_S1_S1x1x1) inpos_S1x1x1_p0_0_0

/-- One minus the clipped score of an observed and an expected agreement. -/
def score (po pe : Ideal .f32) : Ideal .f32 :=
  let e : Ideal .f32 := Scalar.minimumf (Scalar.ofBits .f32 0x3F7FFFFE#32) (Scalar.maximumf (Scalar.ofBits .f32 0x00000000#32) pe)
  Scalar.subf (Scalar.ofBits .f32 0x3F800000#32) (Scalar.minimumf (Scalar.ofBits .f32 0x3F800000#32) (Scalar.maximumf (Scalar.ofBits .f32 0xBF800000#32)
    (Scalar.select (Scalar.cmpf .oge e (Scalar.ofBits .f32 0x3F7FFFFE#32)) (Scalar.ofBits .f32 0x00000000#32)
      (Scalar.divf (Scalar.subf po e) (Scalar.addf (Scalar.subf (Scalar.ofBits .f32 0x3F800000#32) e) (Scalar.ofBits .f32 0x33D6BF95#32))))))

/-- The epilogue is the score of its parts. -/
theorem loss_eq (P : IVec S32x8x8 32) :
    Ideal.loss (F := Ideal) P = broadcast S1x1 (score (weighted weights (shares P)) (weighted weights (outer (shares P)))) := rfl

/-! ## Each part is the reference's -/

theorem outer_eq (C : FVec Ideal S8x8 .f32) : outer C = Ref.outer (F := Ideal) C := by
  funext j
  obtain ⟨a, b, rfl⟩ : ∃ a b, j = ix2 a b := ⟨_, _, eq_ix2 j⟩
  unfold outer Ref.outer
  pointwise

theorem gap_eq : gap = Ref.gap (F := Ideal) := by
  funext j
  obtain ⟨a, b, rfl⟩ : ∃ a b, j = ix2 a b := ⟨_, _, eq_ix2 j⟩
  unfold gap Ref.gap
  pointwise

theorem weights_eq : weights = Ref.weights (F := Ideal) := by
  unfold weights Ref.weights
  rw [gap_eq]
  funext j
  rfl

/-- A table summed through a shape with a leading one: the sum over its rows and columns. -/
theorem weighted_eq (W C : FVec Ideal S8x8 .f32) (j : Cert.ReferenceIdeal.S_.Idx) : weighted W C = Ref.weighted (F := Ideal) W C j := by
  unfold weighted Ref.weighted
  pointwise

theorem score_eq (po pe : FVec Ideal Cert.ReferenceIdeal.S_ .f32) (j : Cert.ReferenceIdeal.S_.Idx) : score (po j) (pe j) = Ref.score (F := Ideal) po pe j := rfl

end Cert.Proof.Score
-- ==== Proof.Value.lean ====
/- The kernel's result is the reference's: equal tables, so equal scores. -/
module

public import proofs.«01_k».proof.Proof.Score

@[expose] public section

noncomputable section

namespace Cert.Proof.Score

open Cert.KernelIdeal Cert.KernelIdeal.Gen Cert.Proof.Hist
open Idealize.ShloMosaic

theorem named_inv : (Named.named κ "inv_n" 0x358637BD#32 : Ideal .f32) = (((1000000 : ℝ)⁻¹ : ℝ) : EReal) :=
  IdealRules.named_const.ideal_named_scalar _ _ _ _ rfl

theorem ofBits_million : Ideal.ofBits .f32 0x49742400#32 = ((1000000 : ℝ) : EReal) := by
  simp [Ideal.ofBits, Ideal.ieee, -EReal.coe_mul]; norm_num

/-- Cell `(i, j)` of the shares: the counts of bin `8 i + j` added over the tiles, over the number of rows. -/
theorem shares_apply (K : IVec S32x64 32) (i j : Fin 8) (b : Fin 64) (hb : b.val = 8 * i.val + j.val) :
    shares (shapeCast S32x8x8 K shapeCasts_S32x64_S32x8x8) (ix2 i j)
      = (∑ w : Fin 32, (((K (ix2 w b)).toInt : ℝ) : EReal)) * (((1000000 : ℝ)⁻¹ : ℝ) : EReal) := by
  have cell : ∀ w : Fin 32, shapeCast S32x8x8 K shapeCasts_S32x64_S32x8x8 (ix3 w i j) = K (ix2 w b) := fun w => by
    refine shapeCast_apply K shapeCasts_S32x64_S32x8x8 _ (ix2 w b) ?_
    rw [Shape.rowMajor_val_two, Shape.rowMajor_val_three]
    show w.val * 64 + b.val = (w.val * 8 + i.val) * 8 + j.val
    omega
  generalize shapeCast S32x8x8 K shapeCasts_S32x64_S32x8x8 = P at cell
  unfold shares
  rw [named_inv]
  pointwise
  simp only [cell]
  rfl

/-- The same cell of the reference's shares. -/
theorem ref_shares_apply (N : IVec Cert.ReferenceIdeal.S64 32) (i j : Fin 8) (b : Fin 64) (hb : b.val = 8 * i.val + j.val) :
    Ref.shares (F := Ideal) N (ix2 i j) = (((N (ix1 b)).toInt : ℝ) : EReal) * (((1000000 : ℝ)⁻¹ : ℝ) : EReal) := by
  have cell : shapeCast Cert.ReferenceIdeal.S8x8 N Cert.ReferenceIdeal.Gen.shapeCasts_S64_S8x8 (ix2 i j) = N (ix1 b) := by
    refine shapeCast_apply N _ _ (ix1 b) ?_
    rw [Shape.rowMajor_val_one, Shape.rowMajor_val_two]
    show b.val = i.val * 8 + j.val
    omega
  unfold Ref.shares
  rw [Ref.hostDivf_apply]
  show Ideal.div (((shapeCast Cert.ReferenceIdeal.S8x8 N Cert.ReferenceIdeal.Gen.shapeCasts_S64_S8x8 (ix2 i j)).toInt : ℝ) : EReal) (Ideal.ofBits .f32 0x49742400#32) = _
  rw [cell, ofBits_million]
  unfold Ideal.div
  rw [if_neg (by norm_num), ← EReal.coe_inv]

/-- The kernel's table is the reference's, for targets in range and scores that are numbers. -/
theorem shares_eq (X : FVec Ideal S1000000x8 .f32) (Y : IVec S1000000 32) (hX : ∀ i, ∃ r : ℝ, X i = (r : EReal)) (hY : ∀ j, (Y j).toNat < 8) :
    shares (shapeCast S32x8x8 (Ideal.tileCounts (F := Ideal) X Y) shapeCasts_S32x64_S32x8x8) = Ref.conf (F := Ideal) X Y := by
  funext x
  obtain ⟨i, j, rfl⟩ : ∃ i j, x = ix2 i j := ⟨_, _, eq_ix2 x⟩
  have hlt : 8 * i.val + j.val < 64 := by omega
  rw [shares_apply _ i j ⟨8 * i.val + j.val, hlt⟩ rfl, Ref.conf, ref_shares_apply _ i j ⟨8 * i.val + j.val, hlt⟩ rfl]
  congr 1
  have hF : ∀ (a : Fin 1000000) (k : Fin 8), nat1 (n := 8000000) (by decide) (Ideal.flat (F := Ideal) X) (8 * a.val + k.val) = X (ix2 a k) :=
    fun a k => flat_row X _ _ a k (by omega)
  have hT : ∀ a : Fin 1000000, nat1 (n := 1000000) (by decide) Y a.val = Y (ix1 a) := fun a => nat1_ix1 _ Y a
  rw [Ref.bincount_eq X Y hX hY _ _ hF hT, Ref.sum_coe]
  exact congrArg _ (Ideal.sum_rows _ _ (fun r hr => by rw [hT ⟨r, hr⟩]; exact hY _) _ hlt)

/-- The kernel's result is the reference's. -/
theorem out_eq (X : FVec Ideal S1000000x8 .f32) (Y : IVec S1000000 32) (hX : ∀ i, ∃ r : ℝ, X i = (r : EReal)) (hY : ∀ j, (Y j).toNat < 8) :
    Ideal.out (F := Ideal) X Y = Ref.out (F := Ideal) X Y := by
  funext j
  unfold Ideal.out Ref.out
  rw [loss_eq, shares_eq X Y hX hY, outer_eq, weights_eq, ← score_eq, ← weighted_eq, ← weighted_eq]
  rfl

end Cert.Proof.Score
-- ==== Proof.Range.lean ====
/- What the two preconditions say of the arguments: of the frames', that every target lies in 0..7; of the value claim's, that every score is finite
   besides. -/
module

public import proofs.«01_k».proof.Proof.Gen.Pre_in_range
public import proofs.«01_k».proof.Proof.Gen.Pre_targets_in_range
public import Idealize.ShloMosaic.Lib.ReduceAll
public import Idealize.ShloMosaic.PureOps.Ideal

@[expose] public section

noncomputable section

namespace Cert.Proof.Range

open Idealize.ShloMosaic Cert.Pre_in_range

variable {F : FTy → Type} [FloatOps F]

theorem and_one (a b : BitVec 1) : IntOp.andi a b = 1#1 ↔ a = 1#1 ∧ b = 1#1 := by revert a b; decide

instance : Subsingleton S_.Idx := ⟨fun _ _ => funext fun a => a.elim0⟩

attribute [local instance] Cert.Pre_in_range.Gen.facts Cert.Pre_targets_in_range.Gen.facts

/-- A word that is at least zero and below eight, read as signed. -/
theorem below_eight (y : BitVec 32) (e : IntOp.andi (IntOp.cmpi .sge y 0#32) (IntOp.cmpi .slt y 8#32) = 1#1) : y.toNat < 8 := by
  obtain ⟨h0, h8⟩ := (and_one _ _).1 e
  have h0 : (0#32).toInt ≤ y.toInt := IntOp.cmpi_sge.1 h0
  have h8 : y.toInt < (8#32).toInt := IntOp.cmpi_slt.1 h8
  have a0 : (0#32).toInt = 0 := by decide
  have a8 : (8#32).toInt = 8 := by decide
  rw [a0] at h0; rw [a8] at h8
  have := y.isLt
  rw [BitVec.toInt_eq_toNat_cond] at h0 h8
  split at h0 <;> omega

/-- The frames' precondition says that every target lies in 0..7. -/
theorem bounded (X : FVec F S1000000x8 .f32) (Y : IVec S1000000 32) (h : Cert.Pre_targets_in_range.fn (F := F) X Y = fun _ => 1#1) (j) : (Y j).toNat < 8 := by
  have e := congrFun h (fun a => a.elim0)
  unfold Cert.Pre_targets_in_range.fn at e
  exact below_eight _ (Host.reduce_andi_all _ _ _ _ _ e j)

/-- The two halves of the value claim's precondition, element by element. -/
theorem split (X : FVec F S1000000x8 .f32) (Y : IVec S1000000 32) (h : fn (F := F) X Y = fun _ => 1#1) :
    (∀ i, cmpf .olt (Host.absf X) (fun _ => Scalar.ofBits .f32 0x7F800000#32) i = 1#1) ∧ ∀ j, (Y j).toNat < 8 := by
  have e := congrFun h (fun a => a.elim0)
  unfold fn at e
  obtain ⟨e1, e2⟩ := (and_one _ _).1 e
  exact ⟨fun i => Host.reduce_andi_all _ _ _ _ _ e1 i, fun j => below_eight _ (Host.reduce_andi_all _ _ _ _ _ e2 j)⟩

/-- Under the value claim's precondition every target lies in 0..7. -/
theorem targets (X : FVec F S1000000x8 .f32) (Y : IVec S1000000 32) (h : fn (F := F) X Y = fun _ => 1#1) (j) : (Y j).toNat < 8 := (split X Y h).2 j

/-- Under the value claim's precondition every score is a real number. -/
theorem finite (X : FVec Ideal S1000000x8 .f32) (Y : IVec S1000000 32) (h : fn (F := Ideal) X Y = fun _ => 1#1) (i) : ∃ r : ℝ, X i = (r : EReal) := by
  have e : BitVec.ofBool (decide (max (X i) (-(X i)) < Ideal.ofBits .f32 0x7F800000#32)) = 1#1 := (split X Y h).1 i
  have top : Ideal.ofBits .f32 0x7F800000#32 = ⊤ := by simp [Ideal.ofBits, Ideal.ieee]
  rw [top] at e
  have hlt : max (X i) (-(X i)) < ⊤ := by
    by_contra hn
    simp [hn] at e
  obtain ⟨h1, h2⟩ := max_lt_iff.1 hlt
  refine ⟨(X i).toReal, (EReal.coe_toReal h1.ne fun hb => ?_).symm⟩
  rw [hb] at h2
  simp at h2

end Cert.Proof.Range

end
-- ==== Proof.KernelRun.lean ====
/- The kernel's runs. The two printed programs, `Kernel` and `KernelIdeal`, differ in one constant only, which `KernelIdeal` names: read with the name
   standing for its own word, `KernelIdeal` is `Kernel`, so that its run, proved over any float operations, is the kernel's. -/
module

public import proofs.«01_k».proof.Proof.IdealMain
public import proofs.«01_k».proof.Proof.Range
public import proofs.«01_k».proof.Proof.Gen.Kernel
public import proofs.«01_k».proof.Defs

@[expose] public section

noncomputable section

namespace Cert.Proof.Kern

open Idealize.ShloMosaic

variable {F : FTy → Type} [FloatOps F]

/-- A named constant read as the word that stands in the kernel. -/
@[reducible] def literal : Named F where
  named _ _ {φ} b := Scalar.ofBits φ b

attribute [local instance] literal
attribute [local instance] Cert.Kernel.Gen.facts Cert.KernelIdeal.Gen.facts Cert.Pre_in_range.Gen.facts Cert.Pre_targets_in_range.Gen.facts

/-- The SparseCore tiles run one body in both programs. -/
theorem tile_eq : Cert.Kernel.cc0_sc_kernel (F := F) = Cert.KernelIdeal.cc0_sc_kernel (F := F) := rfl

/-- So does the TensorCore, the name read as its word. -/
theorem epilogue_eq : Cert.Kernel.cc1__qwk_epilogue (F := F) = Cert.KernelIdeal.cc1__qwk_epilogue (F := F) := rfl

/-- The bodies' tables agree. -/
theorem defs₀_eq : Cert.Kernel.defs₀ (F := F) = Cert.KernelIdeal.defs₀ (F := F) := by
  funext p ℓ a
  rcases p with _ | c | ⟨c, s⟩ <;> rcases ℓ with ⟨_ | _ | n, h⟩ <;> first | rfl | exact absurd h (by omega)

theorem defs_eq : Cert.Kernel.defs (F := F) = Cert.KernelIdeal.defs (F := F) :=
  congrArg (fun D => (Cert.KernelIdeal.sc (F := F)).defs (Pipeline.defs (Cert.KernelIdeal.pcfgs (F := F)) D)) defs₀_eq

/-- Every run of the kernel, its targets below 8, ends with the arguments as launched and every semaphore at zero. -/
theorem run [∀ e, Nonempty (Elt F e)] (m : (ℓ : Loc Cert.Kernel.nD Cert.Kernel.τ Cert.Kernel.sig) → Buf (Elt F) ℓ) (ρ : Dev Cert.Kernel.nD → PrngReg)
    (h8 : ∀ (d : Dev Cert.Kernel.nD) (j : Cert.Kernel.S1000000.Idx), (show BitVec 32 from m ((SparseCore.T d).loc Cert.Kernel.main_arg1) j).toNat < 8) :
    θ_run (Cert.Kernel.defs (F := F)) (Cert.Kernel.threads (F := F)) ⟨m, fun _ => 0, ρ⟩ (Cert.Proof.Ideal.QC m) := by
  rw [defs_eq]
  exact Cert.Proof.Ideal.run_main (F := F) m ρ h8

/-- The kernel's frame. -/
theorem frame : Cert.quiescent_Kernel := fun m ρ hpre =>
  (θ_run Cert.Kernel.defs _ _).mono (fun _ h => ⟨fun c => (h.1 c).2, h.2⟩)
    (run (F := Bits) m ρ fun d j => Cert.Proof.Range.bounded (F := Bits) _ _ (hpre d) j)

/-- The idealized kernel's frame. -/
theorem frame_ideal : Cert.quiescent_KernelIdeal := fun m ρ hpre =>
  (θ_run Cert.KernelIdeal.defs _ _).mono (fun _ h => ⟨fun c => (h.1 c).2, h.2⟩)
    (Cert.Proof.Ideal.run_main (F := Ideal) m ρ fun d j => Cert.Proof.Range.bounded (F := Ideal) _ _ (hpre d) j)

/-- The same under the value claim's precondition. -/
theorem frame_pre : Cert.quiescent_KernelIdeal_pre_in_range := fun m ρ hpre =>
  (θ_run Cert.KernelIdeal.defs _ _).mono (fun _ h => ⟨fun c => (h.1 c).2, h.2⟩)
    (Cert.Proof.Ideal.run_main (F := Ideal) m ρ fun d j => Cert.Proof.Range.targets (F := Ideal) _ _ (hpre d) j)

end Cert.Proof.Kern

end
-- ==== Proof.RefFrame.lean ====
/- The reference's frame, and the constant that the idealized kernel names. -/
module

public import proofs.«01_k».proof.Proof.RefRun
public import proofs.«01_k».proof.Proof.KernelRun
public import Idealize.ShloMosaic.PureOps.IdealRules
public import Idealize.ShloMosaic.Lib.Quiescent

@[expose] public section

noncomputable section

namespace Cert.Proof.Ref

open Idealize.ShloMosaic Idealize.SL.Sem

attribute [local instance] Cert.ReferenceIdeal.Gen.facts Cert.Pre_in_range.Gen.facts

/-- The reference's frame: its arguments as launched, and no semaphore to speak of. -/
theorem frame : Cert.quiescent_ReferenceIdeal := fun m ρ _ =>
  (θ_run Cert.ReferenceIdeal.defs _ _).mono (fun r h => ⟨fun c => (h c).2, sem_eq_zero_of_no_sems (by decide) r.2⟩) (run (F := Ideal) m ρ)

/-- The same under the precondition. -/
theorem frame_pre : Cert.quiescent_ReferenceIdeal_pre_in_range := fun m ρ _ =>
  (θ_run Cert.ReferenceIdeal.defs _ _).mono (fun r h => ⟨fun c => (h c).2, sem_eq_zero_of_no_sems (by decide) r.2⟩) (run (F := Ideal) m ρ)

/-- The named constant is one millionth. -/
theorem preserves : Cert.preserves_Kernel_KernelIdeal :=
  IdealRules.named_const.statement Cert.KernelIdeal.κ "inv_n" .f32 0x358637BD#32 ((1000000⁻¹ : ℝ) : EReal) rfl

end Cert.Proof.Ref

end
-- ==== Proof.Algebraic.lean ====
/- The value claim: over the extended reals the idealized kernel and the reference end with one result. -/
module

public import proofs.«01_k».proof.Proof.Value
public import proofs.«01_k».proof.Proof.KernelRun
public import proofs.«01_k».proof.Proof.RefFrame

@[expose] public section

noncomputable section

namespace Cert.Proof

open Idealize.ShloMosaic Idealize.SL.Sem

attribute [local instance] Cert.KernelIdeal.Gen.facts Cert.ReferenceIdeal.Gen.facts Cert.Pre_in_range.Gen.facts

/-- From equal arguments, in the precondition's range, both programs end with one and the same result. -/
theorem algebraic : Cert.algebraic_KernelIdeal_ReferenceIdeal_pre_in_range := fun m g m' g' hpre hargs => by
  refine ⟨fun c => (Ideal.out (F := Ideal) (m (Ideal.argLoc c)) (m (Ideal.tgtLoc c)) : Buf (Elt Ideal) (Ideal.resLoc c)), ?_, ?_⟩
  · exact (θ_run Cert.KernelIdeal.defs _ _).mono (fun _ h => h.1)
      (Ideal.run_main (F := Ideal) m g fun d j => Range.targets (F := Ideal) _ _ (hpre d) j)
  · refine (θ_run Cert.ReferenceIdeal.defs _ _).mono (fun _ h c => ⟨(h c).1.trans ?_, (h c).2⟩) (Ref.run (F := Ideal) m' g')
    rw [(hargs c).1, (hargs c).2]
    exact (Score.out_eq _ _ (Range.finite _ _ (hpre c)) (Range.targets (F := Ideal) _ _ (hpre c))).symm

end Cert.Proof

end
-- ==== Proof.lean ====
/- The claim: the frames of the kernel, of its idealized text and of the reference, the constant that idealizing named, and that the idealized kernel
   computes the reference's result. -/
module

public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_targets_in_range.Gen.facts, Cert.Pre_in_range.Gen.facts,
  Kern.frame, Kern.frame_ideal, Kern.frame_pre, Ref.frame, Ref.frame_pre, Ref.preserves, algebraic⟩

end Cert.Proof

end
